-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3x512x512 : Shape := ⟨4, ![1, 3, 512, 512]⟩
abbrev S1x3x2048x2048 : Shape := ⟨4, ![1, 3, 2048, 2048]⟩
abbrev S1x4 : Shape := ⟨2, ![1, 4]⟩
abbrev S32x3x3x3 : Shape := ⟨4, ![32, 3, 3, 3]⟩
abbrev S32 : Shape := ⟨1, ![32]⟩
abbrev S1x32x3x3 : Shape := ⟨4, ![1, 32, 3, 3]⟩
abbrev S1 : Shape := ⟨1, ![1]⟩
abbrev S36x32 : Shape := ⟨2, ![36, 32]⟩
abbrev S32x1 : Shape := ⟨2, ![32, 1]⟩
abbrev S3x512x512 : Shape := ⟨3, ![3, 512, 512]⟩
abbrev S3x2048x2048 : Shape := ⟨3, ![3, 2048, 2048]⟩
abbrev S_ : Shape := ⟨0, ![]⟩
abbrev S3x514x514 : Shape := ⟨3, ![3, 514, 514]⟩
abbrev S1x512x512 : Shape := ⟨3, ![1, 512, 512]⟩
abbrev S512x512 : Shape := ⟨2, ![512, 512]⟩
abbrev S16x512x512 : Shape := ⟨3, ![16, 512, 512]⟩
abbrev S11x512x512 : Shape := ⟨3, ![11, 512, 512]⟩
abbrev S27x512x512 : Shape := ⟨3, ![27, 512, 512]⟩
abbrev S32x27 : Shape := ⟨2, ![32, 27]⟩
abbrev S32x9 : Shape := ⟨2, ![32, 9]⟩
abbrev S9x32 : Shape := ⟨2, ![9, 32]⟩
abbrev S32x32 : Shape := ⟨2, ![32, 32]⟩
abbrev S4x32 : Shape := ⟨2, ![4, 32]⟩
abbrev S32x4 : Shape := ⟨2, ![32, 4]⟩
abbrev S32x512x512 : Shape := ⟨3, ![32, 512, 512]⟩
abbrev S9x512x512 : Shape := ⟨3, ![9, 512, 512]⟩
abbrev S27x128x512 : Shape := ⟨3, ![27, 128, 512]⟩
abbrev S32x128x512 : Shape := ⟨3, ![32, 128, 512]⟩
abbrev S9x128x512 : Shape := ⟨3, ![9, 128, 512]⟩
abbrev S27x65536 : Shape := ⟨2, ![27, 65536]⟩
abbrev S32x65536 : Shape := ⟨2, ![32, 65536]⟩
abbrev S9x65536 : Shape := ⟨2, ![9, 65536]⟩
abbrev S1x1 : Shape := ⟨2, ![1, 1]⟩
abbrev S1x511x511 : Shape := ⟨3, ![1, 511, 511]⟩
abbrev S511x511 : Shape := ⟨2, ![511, 511]⟩
abbrev S1x511 : Shape := ⟨2, ![1, 511]⟩
abbrev S512x511 : Shape := ⟨2, ![512, 511]⟩
abbrev S512x1 : Shape := ⟨2, ![512, 1]⟩
abbrev S1x511x512 : Shape := ⟨3, ![1, 511, 512]⟩
abbrev S511x512 : Shape := ⟨2, ![511, 512]⟩
abbrev S1x512 : Shape := ⟨2, ![1, 512]⟩
abbrev S1x512x511 : Shape := ⟨3, ![1, 512, 511]⟩
abbrev S32x128x4x512 : Shape := ⟨4, ![32, 128, 4, 512]⟩
abbrev S1x32 : Shape := ⟨2, ![1, 32]⟩
abbrev S2048x2048 : Shape := ⟨2, ![2048, 2048]⟩
abbrev S3x16x2048 : Shape := ⟨3, ![3, 16, 2048]⟩
abbrev S32x1x4x512 : Shape := ⟨4, ![32, 1, 4, 512]⟩
abbrev S16x2048 : Shape := ⟨2, ![16, 2048]⟩
abbrev S30x1 : Shape := ⟨2, ![30, 1]⟩
abbrev S30x512 : Shape := ⟨2, ![30, 512]⟩
abbrev S30x511 : Shape := ⟨2, ![30, 511]⟩
abbrev S1x2048 : Shape := ⟨2, ![1, 2048]⟩
abbrev S30x512x1 : Shape := ⟨3, ![30, 512, 1]⟩
abbrev S30x512x4 : Shape := ⟨3, ![30, 512, 4]⟩
abbrev S30x2048 : Shape := ⟨2, ![30, 2048]⟩
abbrev S16x7 : Shape := ⟨2, ![16, 7]⟩
abbrev S16x2062 : Shape := ⟨2, ![16, 2062]⟩
abbrev S16 : Shape := ⟨1, ![16]⟩
abbrev S16x1 : Shape := ⟨2, ![16, 1]⟩
abbrev S16x16 : Shape := ⟨2, ![16, 16]⟩
abbrev S16x16x128 : Shape := ⟨3, ![16, 16, 128]⟩
abbrev S128x128 : Shape := ⟨2, ![128, 128]⟩
abbrev S256x128 : Shape := ⟨2, ![256, 128]⟩
abbrev S16x16x1 : Shape := ⟨3, ![16, 16, 1]⟩
abbrev S16x1x1 : Shape := ⟨3, ![16, 1, 1]⟩
abbrev S1x16x1 : Shape := ⟨3, ![1, 16, 1]⟩
abbrev S1x1x1 : Shape := ⟨3, ![1, 1, 1]⟩
abbrev S1x16x2048 : Shape := ⟨3, ![1, 16, 2048]⟩
abbrev S4x16x2048 : Shape := ⟨3, ![4, 16, 2048]⟩
abbrev S4x32768 : Shape := ⟨2, ![4, 32768]⟩
abbrev S32x4x512 : Shape := ⟨3, ![32, 4, 512]⟩
abbrev S32x1x512 : Shape := ⟨3, ![32, 1, 512]⟩
abbrev S32x512 : Shape := ⟨2, ![32, 512]⟩
abbrev S32x512x1 : Shape := ⟨3, ![32, 512, 1]⟩
abbrev S32x512x4 : Shape := ⟨3, ![32, 512, 4]⟩
abbrev S32x2048 : Shape := ⟨2, ![32, 2048]⟩
abbrev S32x32768 : Shape := ⟨2, ![32, 32768]⟩
abbrev S1x32768 : Shape := ⟨2, ![1, 32768]⟩
abbrev S1x1x2048x2048 : Shape := ⟨4, ![1, 1, 2048, 2048]⟩

abbrev nBuf : Space → Nat
  | .hbm => 118
  | .vmem => 24
  | .smem => 1
  | _ => 0

abbrev bufTy : (tb : Table) → Fin (tcTables nBuf tb) → BufTy
  | .hbm, ⟨0, _⟩ => ⟨S1x3x512x512, .f32⟩
  | .hbm, ⟨1, _⟩ => ⟨S1x3x2048x2048, .f32⟩
  | .hbm, ⟨2, _⟩ => ⟨S1x4, .i32⟩
  | .hbm, ⟨3, _⟩ => ⟨S32x3x3x3, .f32⟩
  | .hbm, ⟨4, _⟩ => ⟨S32, .f32⟩
  | .hbm, ⟨5, _⟩ => ⟨S1x32x3x3, .f32⟩
  | .hbm, ⟨6, _⟩ => ⟨S1, .f32⟩
  | .hbm, ⟨7, _⟩ => ⟨S36x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S3x512x512, .f32⟩
  | .hbm, ⟨12, _⟩ => ⟨S3x2048x2048, .f32⟩
  | .hbm, ⟨13, _⟩ => ⟨S_, .i32⟩
  | .hbm, ⟨14, _⟩ => ⟨S_, .f32⟩
  | .hbm, ⟨15, _⟩ => ⟨S3x514x514, .f32⟩
  | .hbm, ⟨16, _⟩ => ⟨S1x512x512, .f32⟩
  | .hbm, ⟨17, _⟩ => ⟨S512x512, .f32⟩
  | .hbm, ⟨18, _⟩ => ⟨S1x512x512, .f32⟩
  | .hbm, ⟨19, _⟩ => ⟨S512x512, .f32⟩
  | .hbm, ⟨20, _⟩ => ⟨S1x512x512, .f32⟩
  | .hbm, ⟨21, _⟩ => ⟨S512x512, .f32⟩
  | .hbm, ⟨22, _⟩ => ⟨S1x512x512, .f32⟩
  | .hbm, ⟨23, _⟩ => ⟨S512x512, .f32⟩
  | .hbm, ⟨24, _⟩ => ⟨S1x512x512, .f32⟩
  | .hbm, ⟨25, _⟩ => ⟨S512x512, .f32⟩
  | .hbm, ⟨26, _⟩ => ⟨S1x512x512, .f32⟩
  | .hbm, ⟨27, _⟩ => ⟨S512x512, .f32⟩
  | .hbm, ⟨28, _⟩ => ⟨S1x512x512, .f32⟩
  | .hbm, ⟨29, _⟩ => ⟨S512x512, .f32⟩
  | .hbm, ⟨30, _⟩ => ⟨S1x512x512, .f32⟩
  | .hbm, ⟨31, _⟩ => ⟨S512x512, .f32⟩
  | .hbm, ⟨32, _⟩ => ⟨S1x512x512, .f32⟩
  | .hbm, ⟨33, _⟩ => ⟨S512x512, .f32⟩
  | .hbm, ⟨34, _⟩ => ⟨S1x512x512, .f32⟩
  | .hbm, ⟨35, _⟩ => ⟨S512x512, .f32⟩
  | .hbm, ⟨36, _⟩ => ⟨S1x512x512, .f32⟩
  | .hbm, ⟨37, _⟩ => ⟨S512x512, .f32⟩
  | .hbm, ⟨38, _⟩ => ⟨S1x512x512, .f32⟩
  | .hbm, ⟨39, _⟩ => ⟨S512x512, .f32⟩
  | .hbm, ⟨40, _⟩ => ⟨S1x512x512, .f32⟩
  | .hbm, ⟨41, _⟩ => ⟨S512x512, .f32⟩
  | .hbm, ⟨42, _⟩ => ⟨S1x512x512, .f32⟩
  | .hbm, ⟨43, _⟩ => ⟨S512x512, .f32⟩
  | .hbm, ⟨44, _⟩ => ⟨S1x512x512, .f32⟩
  | .hbm, ⟨45, _⟩ => ⟨S512x512, .f32⟩
  | .hbm, ⟨46, _⟩ => ⟨S1x512x512, .f32⟩
  | .hbm, ⟨47, _⟩ => ⟨S512x512, .f32⟩
  | .hbm, ⟨48, _⟩ => ⟨S1x512x512, .f32⟩
  | .hbm, ⟨49, _⟩ => ⟨S512x512, .f32⟩
  | .hbm, ⟨50, _⟩ => ⟨S1x512x512, .f32⟩
  | .hbm, ⟨51, _⟩ => ⟨S512x512, .f32⟩
  | .hbm, ⟨52, _⟩ => ⟨S1x512x512, .f32⟩
  | .hbm, ⟨53, _⟩ => ⟨S512x512, .f32⟩
  | .hbm, ⟨54, _⟩ => ⟨S1x512x512, .f32⟩
  | .hbm, ⟨55, _⟩ => ⟨S512x512, .f32⟩
  | .hbm, ⟨56, _⟩ => ⟨S1x512x512, .f32⟩
  | .hbm, ⟨57, _⟩ => ⟨S512x512, .f32⟩
  | .hbm, ⟨58, _⟩ => ⟨S1x512x512, .f32⟩
  | .hbm, ⟨59, _⟩ => ⟨S512x512, .f32⟩
  | .hbm, ⟨60, _⟩ => ⟨S1x512x512, .f32⟩
  | .hbm, ⟨61, _⟩ => ⟨S512x512, .f32⟩
  | .hbm, ⟨62, _⟩ => ⟨S1x512x512, .f32⟩
  | .hbm, ⟨63, _⟩ => ⟨S512x512, .f32⟩
  | .hbm, ⟨64, _⟩ => ⟨S1x512x512, .f32⟩
  | .hbm, ⟨65, _⟩ => ⟨S512x512, .f32⟩
  | .hbm, ⟨66, _⟩ => ⟨S1x512x512, .f32⟩
  | .hbm, ⟨67, _⟩ => ⟨S512x512, .f32⟩
  | .hbm, ⟨68, _⟩ => ⟨S1x512x512, .f32⟩
  | .hbm, ⟨69, _⟩ => ⟨S512x512, .f32⟩
  | .hbm, ⟨70, _⟩ => ⟨S1x512x512, .f32⟩
  | .hbm, ⟨71, _⟩ => ⟨S1x512x512, .f32⟩
  | .hbm, ⟨72, _⟩ => ⟨S1x512x512, .f32⟩
  | .hbm, ⟨73, _⟩ => ⟨S1x512x512, .f32⟩
  | .hbm, ⟨74, _⟩ => ⟨S1x512x512, .f32⟩
  | .hbm, ⟨75, _⟩ => ⟨S1x512x512, .f32⟩
  | .hbm, ⟨76, _⟩ => ⟨S1x512x512, .f32⟩
  | .hbm, ⟨77, _⟩ => ⟨S1x512x512, .f32⟩
  | .hbm, ⟨78, _⟩ => ⟨S1x512x512, .f32⟩
  | .hbm, ⟨79, _⟩ => ⟨S1x512x512, .f32⟩
  | .hbm, ⟨80, _⟩ => ⟨S1x512x512, .f32⟩
  | .hbm, ⟨81, _⟩ => ⟨S1x512x512, .f32⟩
  | .hbm, ⟨82, _⟩ => ⟨S1x512x512, .f32⟩
  | .hbm, ⟨83, _⟩ => ⟨S1x512x512, .f32⟩
  | .hbm, ⟨84, _⟩ => ⟨S1x512x512, .f32⟩
  | .hbm, ⟨85, _⟩ => ⟨S1x512x512, .f32⟩
  | .hbm, ⟨86, _⟩ => ⟨S1x512x512, .f32⟩
  | .hbm, ⟨87, _⟩ => ⟨S1x512x512, .f32⟩
  | .hbm, ⟨88, _⟩ => ⟨S1x512x512, .f32⟩
  | .hbm, ⟨89, _⟩ => ⟨S1x512x512, .f32⟩
  | .hbm, ⟨90, _⟩ => ⟨S1x512x512, .f32⟩
  | .hbm, ⟨91, _⟩ => ⟨S1x512x512, .f32⟩
  | .hbm, ⟨92, _⟩ => ⟨S1x512x512, .f32⟩
  | .hbm, ⟨93, _⟩ => ⟨S1x512x512, .f32⟩
  | .hbm, ⟨94, _⟩ => ⟨S1x512x512, .f32⟩
  | .hbm, ⟨95, _⟩ => ⟨S1x512x512, .f32⟩
  | .hbm, ⟨96, _⟩ => ⟨S1x512x512, .f32⟩
  | .hbm, ⟨97, _⟩ => ⟨S16x512x512, .f32⟩
  | .hbm, ⟨98, _⟩ => ⟨S11x512x512, .f32⟩
  | .hbm, ⟨99, _⟩ => ⟨S27x512x512, .f32⟩
  | .hbm, ⟨100, _⟩ => ⟨S32x27, .f32⟩
  | .hbm, ⟨101, _⟩ => ⟨S32x9, .f32⟩
  | .hbm, ⟨102, _⟩ => ⟨S9x32, .f32⟩
  | .hbm, ⟨103, _⟩ => ⟨S32x32, .f32⟩
  | .hbm, ⟨104, _⟩ => ⟨S32x32, .f32⟩
  | .hbm, ⟨105, _⟩ => ⟨S4x32, .f32⟩
  | .hbm, ⟨106, _⟩ => ⟨S32x4, .f32⟩
  | .hbm, ⟨107, _⟩ => ⟨S32x1, .f32⟩
  | .hbm, ⟨108, _⟩ => ⟨S32x512x512, .f32⟩
  | .hbm, ⟨109, _⟩ => ⟨S9x512x512, .f32⟩
  | .hbm, ⟨110, _⟩ => ⟨S1x1, .f32⟩
  | .hbm, ⟨111, _⟩ => ⟨S512x512, .f32⟩
  | .hbm, ⟨112, _⟩ => ⟨S32x128x4x512, .f32⟩
  | .hbm, ⟨113, _⟩ => ⟨S32x1, .f32⟩
  | .hbm, ⟨114, _⟩ => ⟨S1x32, .f32⟩
  | .hbm, ⟨115, _⟩ => ⟨S1x1, .f32⟩
  | .hbm, ⟨116, _⟩ => ⟨S2048x2048, .f32⟩
  | .hbm, ⟨117, _⟩ => ⟨S1x1x2048x2048, .f32⟩
  | .local _ .vmem, ⟨0, _⟩ => ⟨S27x128x512, .f32⟩
  | .local _ .vmem, ⟨1, _⟩ => ⟨S27x128x512, .f32⟩
  | .local _ .vmem, ⟨2, _⟩ => ⟨S32x27, .f32⟩
  | .local _ .vmem, ⟨3, _⟩ => ⟨S32x1, .f32⟩
  | .local _ .vmem, ⟨4, _⟩ => ⟨S32x32, .f32⟩
  | .local _ .vmem, ⟨5, _⟩ => ⟨S9x32, .f32⟩
  | .local _ .vmem, ⟨6, _⟩ => ⟨S32x128x512, .f32⟩
  | .local _ .vmem, ⟨7, _⟩ => ⟨S32x128x512, .f32⟩
  | .local _ .vmem, ⟨8, _⟩ => ⟨S9x128x512, .f32⟩
  | .local _ .vmem, ⟨9, _⟩ => ⟨S9x128x512, .f32⟩
  | .local _ .vmem, ⟨10, _⟩ => ⟨S9x512x512, .f32⟩
  | .local _ .vmem, ⟨11, _⟩ => ⟨S1x1, .f32⟩
  | .local _ .vmem, ⟨12, _⟩ => ⟨S512x512, .f32⟩
  | .local _ .vmem, ⟨13, _⟩ => ⟨S512x512, .f32⟩
  | .local _ .vmem, ⟨14, _⟩ => ⟨S3x16x2048, .f32⟩
  | .local _ .vmem, ⟨15, _⟩ => ⟨S3x16x2048, .f32⟩
  | .local _ .vmem, ⟨16, _⟩ => ⟨S32x1x4x512, .f32⟩
  | .local _ .vmem, ⟨17, _⟩ => ⟨S32x1x4x512, .f32⟩
  | .local _ .vmem, ⟨18, _⟩ => ⟨S32x4, .f32⟩
  | .local _ .vmem, ⟨19, _⟩ => ⟨S32x1, .f32⟩
  | .local _ .vmem, ⟨20, _⟩ => ⟨S1x32, .f32⟩
  | .local _ .vmem, ⟨21, _⟩ => ⟨S1x1, .f32⟩
  | .local _ .vmem, ⟨22, _⟩ => ⟨S16x2048, .f32⟩
  | .local _ .vmem, ⟨23, _⟩ => ⟨S16x2048, .f32⟩
  | .local _ .smem, ⟨0, _⟩ => ⟨S1x1, .f32⟩
  | _, _ => ⟨S1x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95_0 : Ref sig .tc := ⟨.hbm, 108, rfl⟩
abbrev main_v95_1 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc2_scratch0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S27x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x27 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S9x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

abbrev stage1_0 : Fin 1 → Memref sig .tc .vmem S9x512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S3x16x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x1x4x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S16x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S1x3x512x512 : Shape := ⟨4, ![1, 3, 512, 512]⟩
abbrev S1x3x2048x2048 : Shape := ⟨4, ![1, 3, 2048, 2048]⟩
abbrev S1x4 : Shape := ⟨2, ![1, 4]⟩
abbrev S32x3x3x3 : Shape := ⟨4, ![32, 3, 3, 3]⟩
abbrev S32 : Shape := ⟨1, ![32]⟩
abbrev S1x32x3x3 : Shape := ⟨4, ![1, 32, 3, 3]⟩
abbrev S1 : Shape := ⟨1, ![1]⟩
abbrev S36x32 : Shape := ⟨2, ![36, 32]⟩
abbrev S32x1 : Shape := ⟨2, ![32, 1]⟩
abbrev S3x512x512 : Shape := ⟨3, ![3, 512, 512]⟩
abbrev S_ : Shape := ⟨0, ![]⟩
abbrev S3x514x514 : Shape := ⟨3, ![3, 514, 514]⟩
abbrev S32x3x1x1 : Shape := ⟨4, ![32, 3, 1, 1]⟩
abbrev S32x3 : Shape := ⟨2, ![32, 3]⟩
abbrev S32x512x512 : Shape := ⟨3, ![32, 512, 512]⟩
abbrev S32x1x1 : Shape := ⟨3, ![32, 1, 1]⟩
abbrev S1x32x512x512 : Shape := ⟨4, ![1, 32, 512, 512]⟩
abbrev S32x514x514 : Shape := ⟨3, ![32, 514, 514]⟩
abbrev S1x32x1x1 : Shape := ⟨4, ![1, 32, 1, 1]⟩
abbrev S1x32 : Shape := ⟨2, ![1, 32]⟩
abbrev S1x512x512 : Shape := ⟨3, ![1, 512, 512]⟩
abbrev S1x1x1 : Shape := ⟨3, ![1, 1, 1]⟩
abbrev S1x1x512x512 : Shape := ⟨4, ![1, 1, 512, 512]⟩
abbrev S1x1 : Shape := ⟨2, ![1, 1]⟩
abbrev S512x512 : Shape := ⟨2, ![512, 512]⟩
abbrev S2048 : Shape := ⟨1, ![2048]⟩
abbrev S512 : Shape := ⟨1, ![512]⟩
abbrev S1x2048 : Shape := ⟨2, ![1, 2048]⟩
abbrev S512x1 : Shape := ⟨2, ![512, 1]⟩
abbrev S512x2048 : Shape := ⟨2, ![512, 2048]⟩
abbrev S2048x512 : Shape := ⟨2, ![2048, 512]⟩
abbrev S2048x2048 : Shape := ⟨2, ![2048, 2048]⟩
abbrev S1x1x2048x2048 : Shape := ⟨4, ![1, 1, 2048, 2048]⟩
abbrev S1x4x2048x2048 : Shape := ⟨4, ![1, 4, 2048, 2048]⟩
abbrev S1x2048x2048x4 : Shape := ⟨4, ![1, 2048, 2048, 4]⟩
abbrev S4194304x4 : Shape := ⟨2, ![4194304, 4]⟩
abbrev S4194304 : Shape := ⟨1, ![4194304]⟩
abbrev S262144 : Shape := ⟨1, ![262144]⟩
abbrev S262144x1 : Shape := ⟨2, ![262144, 1]⟩
abbrev S262144x4 : Shape := ⟨2, ![262144, 4]⟩
abbrev S1x512x512x32 : Shape := ⟨4, ![1, 512, 512, 32]⟩
abbrev S262144x32 : Shape := ⟨2, ![262144, 32]⟩
abbrev S262144x36 : Shape := ⟨2, ![262144, 36]⟩

abbrev nBuf : Space → Nat
  | .hbm => 502
  | .vmem => 0
  | .smem => 0
  | _ => 0

abbrev hbmTy0_0 (i : Nat) : BufTy := match i % 128 with
  | 0 => ⟨S1x3x512x512, .f32⟩
  | 1 => ⟨S1x3x2048x2048, .f32⟩
  | 2 => ⟨S1x4, .i32⟩
  | 3 => ⟨S32x3x3x3, .f32⟩
  | 4 => ⟨S32, .f32⟩
  | 5 => ⟨S1x32x3x3, .f32⟩
  | 6 => ⟨S1, .f32⟩
  | 7 => ⟨S36x32, .f32⟩
  | 8 => ⟨S32, .f32⟩
  | 9 => ⟨S32x1, .f32⟩
  | 10 => ⟨S1, .f32⟩
  | 11 => ⟨S3x512x512, .f32⟩
  | 12 => ⟨S_, .i32⟩
  | 13 => ⟨S_, .f32⟩
  | 14 => ⟨S3x514x514, .f32⟩
  | 15 => ⟨S32x3x1x1, .f32⟩
  | 16 => ⟨S32x3, .f32⟩
  | 17 => ⟨S3x512x512, .f32⟩
  | 18 => ⟨S32x512x512, .f32⟩
  | 19 => ⟨S_, .f32⟩
  | 20 => ⟨S32x512x512, .f32⟩
  | 21 => ⟨S32x512x512, .f32⟩
  | 22 => ⟨S32x3x1x1, .f32⟩
  | 23 => ⟨S32x3, .f32⟩
  | 24 => ⟨S3x512x512, .f32⟩
  | 25 => ⟨S32x512x512, .f32⟩
  | 26 => ⟨S32x512x512, .f32⟩
  | 27 => ⟨S32x3x1x1, .f32⟩
  | 28 => ⟨S32x3, .f32⟩
  | 29 => ⟨S3x512x512, .f32⟩
  | 30 => ⟨S32x512x512, .f32⟩
  | 31 => ⟨S32x512x512, .f32⟩
  | 32 => ⟨S32x3x1x1, .f32⟩
  | 33 => ⟨S32x3, .f32⟩
  | 34 => ⟨S3x512x512, .f32⟩
  | 35 => ⟨S32x512x512, .f32⟩
  | 36 => ⟨S32x512x512, .f32⟩
  | 37 => ⟨S32x3x1x1, .f32⟩
  | 38 => ⟨S32x3, .f32⟩
  | 39 => ⟨S3x512x512, .f32⟩
  | 40 => ⟨S32x512x512, .f32⟩
  | 41 => ⟨S32x512x512, .f32⟩
  | 42 => ⟨S32x3x1x1, .f32⟩
  | 43 => ⟨S32x3, .f32⟩
  | 44 => ⟨S3x512x512, .f32⟩
  | 45 => ⟨S32x512x512, .f32⟩
  | 46 => ⟨S32x512x512, .f32⟩
  | 47 => ⟨S32x3x1x1, .f32⟩
  | 48 => ⟨S32x3, .f32⟩
  | 49 => ⟨S3x512x512, .f32⟩
  | 50 => ⟨S32x512x512, .f32⟩
  | 51 => ⟨S32x512x512, .f32⟩
  | 52 => ⟨S32x3x1x1, .f32⟩
  | 53 => ⟨S32x3, .f32⟩
  | 54 => ⟨S3x512x512, .f32⟩
  | 55 => ⟨S32x512x512, .f32⟩
  | 56 => ⟨S32x512x512, .f32⟩
  | 57 => ⟨S32x3x1x1, .f32⟩
  | 58 => ⟨S32x3, .f32⟩
  | 59 => ⟨S3x512x512, .f32⟩
  | 60 => ⟨S32x512x512, .f32⟩
  | 61 => ⟨S32x512x512, .f32⟩
  | 62 => ⟨S32x1x1, .f32⟩
  | 63 => ⟨S32x512x512, .f32⟩
  | 64 => ⟨S32x512x512, .f32⟩
  | 65 => ⟨S1x32x512x512, .f32⟩
  | 66 => ⟨S_, .f32⟩
  | 67 => ⟨S1x32x512x512, .f32⟩
  | 68 => ⟨S1x32x512x512, .f32⟩
  | 69 => ⟨S32x512x512, .f32⟩
  | 70 => ⟨S_, .i32⟩
  | 71 => ⟨S_, .f32⟩
  | 72 => ⟨S32x514x514, .f32⟩
  | 73 => ⟨S1x32x1x1, .f32⟩
  | 74 => ⟨S1x32, .f32⟩
  | 75 => ⟨S32x512x512, .f32⟩
  | 76 => ⟨S1x512x512, .f32⟩
  | 77 => ⟨S_, .f32⟩
  | 78 => ⟨S1x512x512, .f32⟩
  | 79 => ⟨S1x512x512, .f32⟩
  | 80 => ⟨S1x32x1x1, .f32⟩
  | 81 => ⟨S1x32, .f32⟩
  | 82 => ⟨S32x512x512, .f32⟩
  | 83 => ⟨S1x512x512, .f32⟩
  | 84 => ⟨S1x512x512, .f32⟩
  | 85 => ⟨S1x32x1x1, .f32⟩
  | 86 => ⟨S1x32, .f32⟩
  | 87 => ⟨S32x512x512, .f32⟩
  | 88 => ⟨S1x512x512, .f32⟩
  | 89 => ⟨S1x512x512, .f32⟩
  | 90 => ⟨S1x32x1x1, .f32⟩
  | 91 => ⟨S1x32, .f32⟩
  | 92 => ⟨S32x512x512, .f32⟩
  | 93 => ⟨S1x512x512, .f32⟩
  | 94 => ⟨S1x512x512, .f32⟩
  | 95 => ⟨S1x32x1x1, .f32⟩
  | 96 => ⟨S1x32, .f32⟩
  | 97 => ⟨S32x512x512, .f32⟩
  | 98 => ⟨S1x512x512, .f32⟩
  | 99 => ⟨S1x512x512, .f32⟩
  | 100 => ⟨S1x32x1x1, .f32⟩
  | 101 => ⟨S1x32, .f32⟩
  | 102 => ⟨S32x512x512, .f32⟩
  | 103 => ⟨S1x512x512, .f32⟩
  | 104 => ⟨S1x512x512, .f32⟩
  | 105 => ⟨S1x32x1x1, .f32⟩
  | 106 => ⟨S1x32, .f32⟩
  | 107 => ⟨S32x512x512, .f32⟩
  | 108 => ⟨S1x512x512, .f32⟩
  | 109 => ⟨S1x512x512, .f32⟩
  | 110 => ⟨S1x32x1x1, .f32⟩
  | 111 => ⟨S1x32, .f32⟩
  | 112 => ⟨S32x512x512, .f32⟩
  | 113 => ⟨S1x512x512, .f32⟩
  | 114 => ⟨S1x512x512, .f32⟩
  | 115 => ⟨S1x32x1x1, .f32⟩
  | 116 => ⟨S1x32, .f32⟩
  | 117 => ⟨S32x512x512, .f32⟩
  | 118 => ⟨S1x512x512, .f32⟩
  | 119 => ⟨S1x512x512, .f32⟩
  | 120 => ⟨S1x1x1, .f32⟩
  | 121 => ⟨S1x512x512, .f32⟩
  | 122 => ⟨S1x512x512, .f32⟩
  | 123 => ⟨S1x1x512x512, .f32⟩
  | 124 => ⟨S1x1x512x512, .f32⟩
  | 125 => ⟨S1x1x512x512, .f32⟩
  | 126 => ⟨S_, .f32⟩
  | 127 => ⟨S1x1x512x512, .f32⟩
  | _ => ⟨S1x3x512x512, .f32⟩

abbrev hbmTy0_1 (i : Nat) : BufTy := match i % 128 with
  | 0 => ⟨S1x1x512x512, .f32⟩
  | 1 => ⟨S_, .f32⟩
  | 2 => ⟨S1x1x512x512, .f32⟩
  | 3 => ⟨S1x1x512x512, .f32⟩
  | 4 => ⟨S1x1, .i32⟩
  | 5 => ⟨S_, .i32⟩
  | 6 => ⟨S1x1, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S1x1x512x512, .f32⟩
  | 21 => ⟨S512x512, .f32⟩
  | 22 => ⟨S_, .f32⟩
  | 23 => ⟨S_, .f32⟩
  | 24 => ⟨S_, .f32⟩
  | 25 => ⟨S2048, .f32⟩
  | 26 => ⟨S_, .f32⟩
  | 27 => ⟨S2048, .f32⟩
  | 28 => ⟨S2048, .f32⟩
  | 29 => ⟨S_, .f32⟩
  | 30 => ⟨S2048, .f32⟩
  | 31 => ⟨S2048, .f32⟩
  | 32 => ⟨S_, .f32⟩
  | 33 => ⟨S2048, .f32⟩
  | 34 => ⟨S2048, .f32⟩
  | 35 => ⟨S_, .f32⟩
  | 36 => ⟨S2048, .f32⟩
  | 37 => ⟨S2048, .f32⟩
  | 38 => ⟨S512, .f32⟩
  | 39 => ⟨S1x2048, .f32⟩
  | 40 => ⟨S512x1, .f32⟩
  | 41 => ⟨S512x2048, .f32⟩
  | 42 => ⟨S512x2048, .f32⟩
  | 43 => ⟨S512x2048, .f32⟩
  | 44 => ⟨S512x2048, .f32⟩
  | 45 => ⟨S_, .f32⟩
  | 46 => ⟨S512x2048, .f32⟩
  | 47 => ⟨S512x2048, .f32⟩
  | 48 => ⟨S512x2048, .f32⟩
  | 49 => ⟨S_, .f32⟩
  | 50 => ⟨S512x2048, .f32⟩
  | 51 => ⟨S512x2048, .f32⟩
  | 52 => ⟨S_, .f32⟩
  | 53 => ⟨S512x2048, .f32⟩
  | 54 => ⟨S512x2048, .f32⟩
  | 55 => ⟨S_, .f32⟩
  | 56 => ⟨S2048, .f32⟩
  | 57 => ⟨S1x2048, .f32⟩
  | 58 => ⟨S1x2048, .f32⟩
  | 59 => ⟨S_, .f32⟩
  | 60 => ⟨S1x2048, .f32⟩
  | 61 => ⟨S1x2048, .i1⟩
  | 62 => ⟨S_, .f32⟩
  | 63 => ⟨S1x2048, .f32⟩
  | 64 => ⟨S1x2048, .i1⟩
  | 65 => ⟨S_, .i32⟩
  | 66 => ⟨S_, .f32⟩
  | 67 => ⟨S1x2048, .f32⟩
  | 68 => ⟨S1x2048, .f32⟩
  | 69 => ⟨S512x2048, .f32⟩
  | 70 => ⟨S512x2048, .f32⟩
  | 71 => ⟨S_, .i32⟩
  | 72 => ⟨S_, .f32⟩
  | 73 => ⟨S512x2048, .i1⟩
  | 74 => ⟨S512x2048, .f32⟩
  | 75 => ⟨S512x2048, .f32⟩
  | 76 => ⟨S_, .f32⟩
  | 77 => ⟨S2048, .f32⟩
  | 78 => ⟨S2048, .i1⟩
  | 79 => ⟨S_, .f32⟩
  | 80 => ⟨S2048, .f32⟩
  | 81 => ⟨S2048, .i1⟩
  | 82 => ⟨S2048, .i1⟩
  | 83 => ⟨S1x2048, .i1⟩
  | 84 => ⟨S_, .i32⟩
  | 85 => ⟨S_, .f32⟩
  | 86 => ⟨S512x2048, .i1⟩
  | 87 => ⟨S512x2048, .f32⟩
  | 88 => ⟨S512x2048, .f32⟩
  | 89 => ⟨S2048x512, .f32⟩
  | 90 => ⟨S_, .f32⟩
  | 91 => ⟨S_, .f32⟩
  | 92 => ⟨S_, .f32⟩
  | 93 => ⟨S2048, .f32⟩
  | 94 => ⟨S_, .f32⟩
  | 95 => ⟨S2048, .f32⟩
  | 96 => ⟨S2048, .f32⟩
  | 97 => ⟨S_, .f32⟩
  | 98 => ⟨S2048, .f32⟩
  | 99 => ⟨S2048, .f32⟩
  | 100 => ⟨S_, .f32⟩
  | 101 => ⟨S2048, .f32⟩
  | 102 => ⟨S2048, .f32⟩
  | 103 => ⟨S_, .f32⟩
  | 104 => ⟨S2048, .f32⟩
  | 105 => ⟨S2048, .f32⟩
  | 106 => ⟨S512, .f32⟩
  | 107 => ⟨S1x2048, .f32⟩
  | 108 => ⟨S512x1, .f32⟩
  | 109 => ⟨S512x2048, .f32⟩
  | 110 => ⟨S512x2048, .f32⟩
  | 111 => ⟨S512x2048, .f32⟩
  | 112 => ⟨S512x2048, .f32⟩
  | 113 => ⟨S_, .f32⟩
  | 114 => ⟨S512x2048, .f32⟩
  | 115 => ⟨S512x2048, .f32⟩
  | 116 => ⟨S512x2048, .f32⟩
  | 117 => ⟨S_, .f32⟩
  | 118 => ⟨S512x2048, .f32⟩
  | 119 => ⟨S512x2048, .f32⟩
  | 120 => ⟨S_, .f32⟩
  | 121 => ⟨S512x2048, .f32⟩
  | 122 => ⟨S512x2048, .f32⟩
  | 123 => ⟨S_, .f32⟩
  | 124 => ⟨S2048, .f32⟩
  | 125 => ⟨S1x2048, .f32⟩
  | 126 => ⟨S1x2048, .f32⟩
  | 127 => ⟨S_, .f32⟩
  | _ => ⟨S1x3x512x512, .f32⟩

abbrev hbmTy0_2 (i : Nat) : BufTy := match i % 128 with
  | 0 => ⟨S1x2048, .f32⟩
  | 1 => ⟨S1x2048, .i1⟩
  | 2 => ⟨S_, .f32⟩
  | 3 => ⟨S1x2048, .f32⟩
  | 4 => ⟨S1x2048, .i1⟩
  | 5 => ⟨S_, .i32⟩
  | 6 => ⟨S_, .f32⟩
  | 7 => ⟨S1x2048, .f32⟩
  | 8 => ⟨S1x2048, .f32⟩
  | 9 => ⟨S512x2048, .f32⟩
  | 10 => ⟨S512x2048, .f32⟩
  | 11 => ⟨S_, .i32⟩
  | 12 => ⟨S_, .f32⟩
  | 13 => ⟨S512x2048, .i1⟩
  | 14 => ⟨S512x2048, .f32⟩
  | 15 => ⟨S512x2048, .f32⟩
  | 16 => ⟨S_, .f32⟩
  | 17 => ⟨S2048, .f32⟩
  | 18 => ⟨S2048, .i1⟩
  | 19 => ⟨S_, .f32⟩
  | 20 => ⟨S2048, .f32⟩
  | 21 => ⟨S2048, .i1⟩
  | 22 => ⟨S2048, .i1⟩
  | 23 => ⟨S1x2048, .i1⟩
  | 24 => ⟨S_, .i32⟩
  | 25 => ⟨S_, .f32⟩
  | 26 => ⟨S512x2048, .i1⟩
  | 27 => ⟨S512x2048, .f32⟩
  | 28 => ⟨S512x2048, .f32⟩
  | 29 => ⟨S2048x2048, .f32⟩
  | 30 => ⟨S1x1x2048x2048, .f32⟩
  | 31 => ⟨S_, .f32⟩
  | 32 => ⟨S1x1x2048x2048, .f32⟩
  | 33 => ⟨S1x1x2048x2048, .i1⟩
  | 34 => ⟨S_, .f32⟩
  | 35 => ⟨S1x1x2048x2048, .f32⟩
  | 36 => ⟨S1x1x2048x2048, .i1⟩
  | 37 => ⟨S1x1x2048x2048, .i1⟩
  | 38 => ⟨S1x1x2048x2048, .f32⟩
  | 39 => ⟨S_, .f32⟩
  | 40 => ⟨S_, .f32⟩
  | 41 => ⟨S1x1x2048x2048, .f32⟩
  | 42 => ⟨S_, .f32⟩
  | 43 => ⟨S1x1x2048x2048, .f32⟩
  | 44 => ⟨S1x1x2048x2048, .f32⟩
  | 45 => ⟨S_, .f32⟩
  | 46 => ⟨S1x1x2048x2048, .f32⟩
  | 47 => ⟨S1x1x2048x2048, .f32⟩
  | 48 => ⟨S1x4x2048x2048, .f32⟩
  | 49 => ⟨S1x2048x2048x4, .f32⟩
  | 50 => ⟨S4194304x4, .f32⟩
  | 51 => ⟨S4194304, .f32⟩
  | 52 => ⟨S262144, .f32⟩
  | 53 => ⟨S262144, .i32⟩
  | 54 => ⟨S_, .i32⟩
  | 55 => ⟨S262144, .i32⟩
  | 56 => ⟨S262144, .i1⟩
  | 57 => ⟨S_, .i32⟩
  | 58 => ⟨S262144, .i32⟩
  | 59 => ⟨S262144, .i32⟩
  | 60 => ⟨S262144, .i32⟩
  | 61 => ⟨S262144x1, .i32⟩
  | 62 => ⟨S1, .i32⟩
  | 63 => ⟨S_, .i32⟩
  | 64 => ⟨S262144x1, .i32⟩
  | 65 => ⟨S262144x1, .i1⟩
  | 66 => ⟨S1x1, .i32⟩
  | 67 => ⟨S262144x1, .i32⟩
  | 68 => ⟨S262144x1, .i1⟩
  | 69 => ⟨S262144x1, .i1⟩
  | 70 => ⟨S_, .i1⟩
  | 71 => ⟨S262144, .i1⟩
  | 72 => ⟨S262144x4, .f32⟩
  | 73 => ⟨S262144x4, .i1⟩
  | 74 => ⟨S_, .f32⟩
  | 75 => ⟨S262144x4, .f32⟩
  | 76 => ⟨S262144x4, .f32⟩
  | 77 => ⟨S_, .i32⟩
  | 78 => ⟨S_, .i32⟩
  | 79 => ⟨S262144, .i32⟩
  | 80 => ⟨S262144, .i32⟩
  | 81 => ⟨S262144, .i32⟩
  | 82 => ⟨S_, .i32⟩
  | 83 => ⟨S262144, .i32⟩
  | 84 => ⟨S262144, .i1⟩
  | 85 => ⟨S262144, .i32⟩
  | 86 => ⟨S262144, .i32⟩
  | 87 => ⟨S_, .i32⟩
  | 88 => ⟨S262144, .i32⟩
  | 89 => ⟨S262144, .i1⟩
  | 90 => ⟨S262144, .i1⟩
  | 91 => ⟨S_, .i32⟩
  | 92 => ⟨S262144, .i32⟩
  | 93 => ⟨S262144, .i32⟩
  | 94 => ⟨S262144, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S262144, .i32⟩
  | 102 => ⟨S262144, .i32⟩
  | 103 => ⟨S_, .i32⟩
  | 104 => ⟨S262144, .i32⟩
  | 105 => ⟨S262144, .i1⟩
  | 106 => ⟨S_, .i32⟩
  | 107 => ⟨S262144, .i32⟩
  | 108 => ⟨S262144, .i1⟩
  | 109 => ⟨S_, .i32⟩
  | 110 => ⟨S_, .i1⟩
  | 111 => ⟨S262144, .i1⟩
  | 112 => ⟨S262144, .i1⟩
  | 113 => ⟨S262144, .i1⟩
  | 114 => ⟨S262144, .i32⟩
  | 115 => ⟨S262144, .i32⟩
  | 116 => ⟨S262144, .i32⟩
  | 117 => ⟨S_, .i32⟩
  | 118 => ⟨S_, .i32⟩
  | 119 => ⟨S262144, .i32⟩
  | 120 => ⟨S262144, .i32⟩
  | 121 => ⟨S262144, .i32⟩
  | 122 => ⟨S_, .i32⟩
  | 123 => ⟨S262144, .i32⟩
  | 124 => ⟨S262144, .i1⟩
  | 125 => ⟨S262144, .i32⟩
  | 126 => ⟨S262144, .i32⟩
  | 127 => ⟨S_, .i32⟩
  | _ => ⟨S1x3x512x512, .f32⟩

abbrev hbmTy0_3 (i : Nat) : BufTy := match i % 128 with
  | 0 => ⟨S262144, .i32⟩
  | 1 => ⟨S262144, .i1⟩
  | 2 => ⟨S262144, .i1⟩
  | 3 => ⟨S_, .i32⟩
  | 4 => ⟨S262144, .i32⟩
  | 5 => ⟨S262144, .i32⟩
  | 6 => ⟨S262144, .i32⟩
  | 7 => ⟨S_, .i32⟩
  | 8 => ⟨S262144, .i32⟩
  | 9 => ⟨S262144, .i32⟩
  | 10 => ⟨S_, .i32⟩
  | 11 => ⟨S_, .i32⟩
  | 12 => ⟨S262144, .i32⟩
  | 13 => ⟨S262144, .i32⟩
  | 14 => ⟨S262144, .i32⟩
  | 15 => ⟨S_, .i32⟩
  | 16 => ⟨S262144, .i32⟩
  | 17 => ⟨S262144, .i1⟩
  | 18 => ⟨S262144, .i32⟩
  | 19 => ⟨S262144, .i32⟩
  | 20 => ⟨S_, .i32⟩
  | 21 => ⟨S262144, .i32⟩
  | 22 => ⟨S262144, .i1⟩
  | 23 => ⟨S262144, .i1⟩
  | 24 => ⟨S_, .i32⟩
  | 25 => ⟨S262144, .i32⟩
  | 26 => ⟨S262144, .i32⟩
  | 27 => ⟨S262144, .i32⟩
  | 28 => ⟨S262144, .i32⟩
  | 29 => ⟨S1x512x512x32, .f32⟩
  | 30 => ⟨S262144x32, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S1, .i32⟩
  | 40 => ⟨S_, .i32⟩
  | 41 => ⟨S262144x1, .i32⟩
  | 42 => ⟨S262144x1, .i1⟩
  | 43 => ⟨S1x1, .i32⟩
  | 44 => ⟨S262144x1, .i32⟩
  | 45 => ⟨S262144x1, .i1⟩
  | 46 => ⟨S262144x1, .i1⟩
  | 47 => ⟨S_, .i1⟩
  | 48 => ⟨S262144, .i1⟩
  | 49 => ⟨S262144x32, .f32⟩
  | 50 => ⟨S262144x32, .i1⟩
  | 51 => ⟨S_, .f32⟩
  | 52 => ⟨S262144x32, .f32⟩
  | 53 => ⟨S262144x32, .f32⟩
  | 54 => ⟨S262144x36, .f32⟩
  | 55 => ⟨S262144x32, .f32⟩
  | 56 => ⟨S1x32, .f32⟩
  | 57 => ⟨S262144x32, .f32⟩
  | 58 => ⟨S262144x32, .f32⟩
  | 59 => ⟨S_, .f32⟩
  | 60 => ⟨S262144x32, .f32⟩
  | 61 => ⟨S262144x32, .f32⟩
  | 62 => ⟨S262144x1, .f32⟩
  | 63 => ⟨S1x1, .f32⟩
  | 64 => ⟨S262144x1, .f32⟩
  | 65 => ⟨S262144x1, .f32⟩
  | 66 => ⟨S262144x1, .f32⟩
  | 67 => ⟨S262144x1, .f32⟩
  | 68 => ⟨S_, .f32⟩
  | 69 => ⟨S262144x1, .f32⟩
  | 70 => ⟨S262144x1, .f32⟩
  | 71 => ⟨S_, .f32⟩
  | 72 => ⟨S262144x1, .f32⟩
  | 73 => ⟨S262144x1, .f32⟩
  | 74 => ⟨S262144, .f32⟩
  | 75 => ⟨S4194304, .f32⟩
  | 76 => ⟨S_, .f32⟩
  | 77 => ⟨S262144, .f32⟩
  | 78 => ⟨S262144, .i1⟩
  | 79 => ⟨S262144, .f32⟩
  | 80 => ⟨S262144, .f32⟩
  | 81 => ⟨S_, .i32⟩
  | 82 => ⟨S262144, .i32⟩
  | 83 => ⟨S262144, .i1⟩
  | 84 => ⟨S_, .i32⟩
  | 85 => ⟨S262144, .i32⟩
  | 86 => ⟨S262144, .i32⟩
  | 87 => ⟨S262144, .i32⟩
  | 88 => ⟨S262144x1, .i32⟩
  | 89 => ⟨S1, .i32⟩
  | 90 => ⟨S_, .i32⟩
  | 91 => ⟨S262144x1, .i32⟩
  | 92 => ⟨S262144x1, .i1⟩
  | 93 => ⟨S1x1, .i32⟩
  | 94 => ⟨S262144x1, .i32⟩
  | 95 => ⟨S262144x1, .i1⟩
  | 96 => ⟨S262144x1, .i1⟩
  | 97 => ⟨S_, .i1⟩
  | 98 => ⟨S262144, .i1⟩
  | 99 => ⟨S262144, .f32⟩
  | 100 => ⟨S_, .f32⟩
  | 101 => ⟨S262144, .f32⟩
  | 102 => ⟨S262144, .f32⟩
  | 103 => ⟨S_, .f32⟩
  | 104 => ⟨S262144, .f32⟩
  | 105 => ⟨S262144, .f32⟩
  | 106 => ⟨S262144, .f32⟩
  | 107 => ⟨S262144, .f32⟩
  | 108 => ⟨S_, .i32⟩
  | 109 => ⟨S262144, .i32⟩
  | 110 => ⟨S262144, .i1⟩
  | 111 => ⟨S_, .i32⟩
  | 112 => ⟨S262144, .i32⟩
  | 113 => ⟨S262144, .i32⟩
  | 114 => ⟨S262144, .i32⟩
  | 115 => ⟨S262144x1, .i32⟩
  | 116 => ⟨S4194304, .f32⟩
  | 117 => ⟨S1x1x2048x2048, .f32⟩
  | _ => ⟨S1x3x512x512, .f32⟩

abbrev hbmTy (i : Nat) : BufTy := match i / 128 with
  | 0 => hbmTy0_0 i
  | 1 => hbmTy0_1 i
  | 2 => hbmTy0_2 i
  | 3 => hbmTy0_3 i
  | _ => ⟨S1x3x512x512, .f32⟩

abbrev bufTy : (tb : Table) → Fin (tcTables nBuf tb) → BufTy
  | .hbm, ⟨i, _⟩ => hbmTy i
  | _, _ => ⟨S1x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_call1_cst : Ref sig .tc := ⟨.hbm, 66, rfl⟩
abbrev main_call1_v0 : Ref sig .tc := ⟨.hbm, 67, rfl⟩
abbrev main_v52 : Ref sig .tc := ⟨.hbm, 68, rfl⟩
abbrev main_v53 : Ref sig .tc := ⟨.hbm, 69, rfl⟩
abbrev main_c_0 : Ref sig .tc := ⟨.hbm, 70, rfl⟩
abbrev main_call2_v0 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_1 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_2 : Ref sig .tc := ⟨.hbm, 126, rfl⟩
abbrev main_v107 : Ref sig .tc := ⟨.hbm, 127, rfl⟩
abbrev main_v108 : Ref sig .tc := ⟨.hbm, 128, rfl⟩
abbrev main_cst_3 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_4 : Ref sig .tc := ⟨.hbm, 136, rfl⟩
abbrev main_v115 : Ref sig .tc := ⟨.hbm, 137, rfl⟩
abbrev main_c_5 : Ref sig .tc := ⟨.hbm, 138, rfl⟩
abbrev main_v116 : Ref sig .tc := ⟨.hbm, 139, rfl⟩
abbrev main_v117 : Ref sig .tc := ⟨.hbm, 140, rfl⟩
abbrev main_c_6 : Ref sig .tc := ⟨.hbm, 141, rfl⟩
abbrev main_v118 : Ref sig .tc := ⟨.hbm, 142, rfl⟩
abbrev main_c_7 : Ref sig .tc := ⟨.hbm, 143, rfl⟩
abbrev main_v119 : Ref sig .tc := ⟨.hbm, 144, rfl⟩
abbrev main_v120 : Ref sig .tc := ⟨.hbm, 145, rfl⟩
abbrev main_c_8 : Ref sig .tc := ⟨.hbm, 146, rfl⟩
abbrev main_c_9 : Ref sig .tc := ⟨.hbm, 147, rfl⟩
abbrev main_v121 : Ref sig .tc := ⟨.hbm, 148, rfl⟩
abbrev main_v122 : Ref sig .tc := ⟨.hbm, 149, rfl⟩
abbrev main_call3_cst : Ref sig .tc := ⟨.hbm, 150, rfl⟩
abbrev main_call3_cst_0 : Ref sig .tc := ⟨.hbm, 151, rfl⟩
abbrev main_call3_v0 : Ref sig .tc := ⟨.hbm, 152, rfl⟩
abbrev main_call3_v1 : Ref sig .tc := ⟨.hbm, 153, rfl⟩
abbrev main_call3_cst_1 : Ref sig .tc := ⟨.hbm, 154, rfl⟩
abbrev main_call3_v2 : Ref sig .tc := ⟨.hbm, 155, rfl⟩
abbrev main_call3_v3 : Ref sig .tc := ⟨.hbm, 156, rfl⟩
abbrev main_call3_cst_2 : Ref sig .tc := ⟨.hbm, 157, rfl⟩
abbrev main_call3_v4 : Ref sig .tc := ⟨.hbm, 158, rfl⟩
abbrev main_call3_v5 : Ref sig .tc := ⟨.hbm, 159, rfl⟩
abbrev main_call3_cst_3 : Ref sig .tc := ⟨.hbm, 160, rfl⟩
abbrev main_call3_v6 : Ref sig .tc := ⟨.hbm, 161, rfl⟩
abbrev main_call3_v7 : Ref sig .tc := ⟨.hbm, 162, rfl⟩
abbrev main_call3_cst_4 : Ref sig .tc := ⟨.hbm, 163, rfl⟩
abbrev main_call3_v8 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_v12 : Ref sig .tc := ⟨.hbm, 168, rfl⟩
abbrev main_call3_v13 : Ref sig .tc := ⟨.hbm, 169, rfl⟩
abbrev main_call3_v14 : Ref sig .tc := ⟨.hbm, 170, rfl⟩
abbrev main_call3_v15 : Ref sig .tc := ⟨.hbm, 171, rfl⟩
abbrev main_call3_v16 : Ref sig .tc := ⟨.hbm, 172, rfl⟩
abbrev main_call3_v17 : Ref sig .tc := ⟨.hbm, 173, rfl⟩
abbrev main_call3_v18 : Ref sig .tc := ⟨.hbm, 174, rfl⟩
abbrev main_call3_v19 : Ref sig .tc := ⟨.hbm, 175, rfl⟩
abbrev main_call3_v20 : Ref sig .tc := ⟨.hbm, 176, rfl⟩
abbrev main_call3_cst_5 : Ref sig .tc := ⟨.hbm, 177, rfl⟩
abbrev main_call3_v21 : Ref sig .tc := ⟨.hbm, 178, rfl⟩
abbrev main_call3_v22 : Ref sig .tc := ⟨.hbm, 179, rfl⟩
abbrev main_call3_cst_6 : Ref sig .tc := ⟨.hbm, 180, rfl⟩
abbrev main_call3_v23 : Ref sig .tc := ⟨.hbm, 181, rfl⟩
abbrev main_call3_v24 : Ref sig .tc := ⟨.hbm, 182, rfl⟩
abbrev main_call3_cst_7 : Ref sig .tc := ⟨.hbm, 183, rfl⟩
abbrev main_call3_v25 : Ref sig .tc := ⟨.hbm, 184, rfl⟩
abbrev main_call3_v26 : Ref sig .tc := ⟨.hbm, 185, rfl⟩
abbrev main_call3_v27 : Ref sig .tc := ⟨.hbm, 186, rfl⟩
abbrev main_call3_cst_8 : Ref sig .tc := ⟨.hbm, 187, rfl⟩
abbrev main_call3_v28 : Ref sig .tc := ⟨.hbm, 188, rfl⟩
abbrev main_call3_v29 : Ref sig .tc := ⟨.hbm, 189, rfl⟩
abbrev main_call3_cst_9 : Ref sig .tc := ⟨.hbm, 190, rfl⟩
abbrev main_call3_v30 : Ref sig .tc := ⟨.hbm, 191, rfl⟩
abbrev main_call3_v31 : Ref sig .tc := ⟨.hbm, 192, rfl⟩
abbrev main_call3_c : Ref sig .tc := ⟨.hbm, 193, rfl⟩
abbrev main_call3_call0_v0 : Ref sig .tc := ⟨.hbm, 194, rfl⟩
abbrev main_call3_call0_v1 : Ref sig .tc := ⟨.hbm, 195, rfl⟩
abbrev main_call3_v32 : Ref sig .tc := ⟨.hbm, 196, rfl⟩
abbrev main_call3_v33 : Ref sig .tc := ⟨.hbm, 197, rfl⟩
abbrev main_call3_v34 : Ref sig .tc := ⟨.hbm, 198, rfl⟩
abbrev main_call3_c_10 : Ref sig .tc := ⟨.hbm, 199, rfl⟩
abbrev main_call3_call1_v0 : Ref sig .tc := ⟨.hbm, 200, rfl⟩
abbrev main_call3_call1_v1 : Ref sig .tc := ⟨.hbm, 201, rfl⟩
abbrev main_call3_call1_v2 : Ref sig .tc := ⟨.hbm, 202, rfl⟩
abbrev main_call3_v35 : Ref sig .tc := ⟨.hbm, 203, rfl⟩
abbrev main_call3_cst_11 : Ref sig .tc := ⟨.hbm, 204, rfl⟩
abbrev main_call3_v36 : Ref sig .tc := ⟨.hbm, 205, rfl⟩
abbrev main_call3_v37 : Ref sig .tc := ⟨.hbm, 206, rfl⟩
abbrev main_call3_cst_12 : Ref sig .tc := ⟨.hbm, 207, rfl⟩
abbrev main_call3_v38 : Ref sig .tc := ⟨.hbm, 208, rfl⟩
abbrev main_call3_v39 : Ref sig .tc := ⟨.hbm, 209, rfl⟩
abbrev main_call3_v40 : Ref sig .tc := ⟨.hbm, 210, rfl⟩
abbrev main_call3_v41 : Ref sig .tc := ⟨.hbm, 211, rfl⟩
abbrev main_call3_c_13 : Ref sig .tc := ⟨.hbm, 212, rfl⟩
abbrev main_call3_call2_v0 : Ref sig .tc := ⟨.hbm, 213, rfl⟩
abbrev main_call3_call2_v1 : Ref sig .tc := ⟨.hbm, 214, rfl⟩
abbrev main_call3_call2_v2 : Ref sig .tc := ⟨.hbm, 215, rfl⟩
abbrev main_call3_v42 : Ref sig .tc := ⟨.hbm, 216, rfl⟩
abbrev main_v123 : Ref sig .tc := ⟨.hbm, 217, rfl⟩
abbrev main_call4_cst : Ref sig .tc := ⟨.hbm, 218, rfl⟩
abbrev main_call4_cst_0 : Ref sig .tc := ⟨.hbm, 219, rfl⟩
abbrev main_call4_v0 : Ref sig .tc := ⟨.hbm, 220, rfl⟩
abbrev main_call4_v1 : Ref sig .tc := ⟨.hbm, 221, rfl⟩
abbrev main_call4_cst_1 : Ref sig .tc := ⟨.hbm, 222, rfl⟩
abbrev main_call4_v2 : Ref sig .tc := ⟨.hbm, 223, rfl⟩
abbrev main_call4_v3 : Ref sig .tc := ⟨.hbm, 224, rfl⟩
abbrev main_call4_cst_2 : Ref sig .tc := ⟨.hbm, 225, rfl⟩
abbrev main_call4_v4 : Ref sig .tc := ⟨.hbm, 226, rfl⟩
abbrev main_call4_v5 : Ref sig .tc := ⟨.hbm, 227, rfl⟩
abbrev main_call4_cst_3 : Ref sig .tc := ⟨.hbm, 228, rfl⟩
abbrev main_call4_v6 : Ref sig .tc := ⟨.hbm, 229, rfl⟩
abbrev main_call4_v7 : Ref sig .tc := ⟨.hbm, 230, rfl⟩
abbrev main_call4_cst_4 : Ref sig .tc := ⟨.hbm, 231, rfl⟩
abbrev main_call4_v8 : Ref sig .tc := ⟨.hbm, 232, rfl⟩
abbrev main_call4_v9 : Ref sig .tc := ⟨.hbm, 233, rfl⟩
abbrev main_call4_v10 : Ref sig .tc := ⟨.hbm, 234, rfl⟩
abbrev main_call4_v11 : Ref sig .tc := ⟨.hbm, 235, rfl⟩
abbrev main_call4_v12 : Ref sig .tc := ⟨.hbm, 236, rfl⟩
abbrev main_call4_v13 : Ref sig .tc := ⟨.hbm, 237, rfl⟩
abbrev main_call4_v14 : Ref sig .tc := ⟨.hbm, 238, rfl⟩
abbrev main_call4_v15 : Ref sig .tc := ⟨.hbm, 239, rfl⟩
abbrev main_call4_v16 : Ref sig .tc := ⟨.hbm, 240, rfl⟩
abbrev main_call4_v17 : Ref sig .tc := ⟨.hbm, 241, rfl⟩
abbrev main_call4_v18 : Ref sig .tc := ⟨.hbm, 242, rfl⟩
abbrev main_call4_v19 : Ref sig .tc := ⟨.hbm, 243, rfl⟩
abbrev main_call4_v20 : Ref sig .tc := ⟨.hbm, 244, rfl⟩
abbrev main_call4_cst_5 : Ref sig .tc := ⟨.hbm, 245, rfl⟩
abbrev main_call4_v21 : Ref sig .tc := ⟨.hbm, 246, rfl⟩
abbrev main_call4_v22 : Ref sig .tc := ⟨.hbm, 247, rfl⟩
abbrev main_call4_cst_6 : Ref sig .tc := ⟨.hbm, 248, rfl⟩
abbrev main_call4_v23 : Ref sig .tc := ⟨.hbm, 249, rfl⟩
abbrev main_call4_v24 : Ref sig .tc := ⟨.hbm, 250, rfl⟩
abbrev main_call4_cst_7 : Ref sig .tc := ⟨.hbm, 251, rfl⟩
abbrev main_call4_v25 : Ref sig .tc := ⟨.hbm, 252, rfl⟩
abbrev main_call4_v26 : Ref sig .tc := ⟨.hbm, 253, rfl⟩
abbrev main_call4_v27 : Ref sig .tc := ⟨.hbm, 254, rfl⟩
abbrev main_call4_cst_8 : Ref sig .tc := ⟨.hbm, 255, rfl⟩
abbrev main_call4_v28 : Ref sig .tc := ⟨.hbm, 256, rfl⟩
abbrev main_call4_v29 : Ref sig .tc := ⟨.hbm, 257, rfl⟩
abbrev main_call4_cst_9 : Ref sig .tc := ⟨.hbm, 258, rfl⟩
abbrev main_call4_v30 : Ref sig .tc := ⟨.hbm, 259, rfl⟩
abbrev main_call4_v31 : Ref sig .tc := ⟨.hbm, 260, rfl⟩
abbrev main_call4_c : Ref sig .tc := ⟨.hbm, 261, rfl⟩
abbrev main_call4_call0_v0 : Ref sig .tc := ⟨.hbm, 262, rfl⟩
abbrev main_call4_call0_v1 : Ref sig .tc := ⟨.hbm, 263, rfl⟩
abbrev main_call4_v32 : Ref sig .tc := ⟨.hbm, 264, rfl⟩
abbrev main_call4_v33 : Ref sig .tc := ⟨.hbm, 265, rfl⟩
abbrev main_call4_v34 : Ref sig .tc := ⟨.hbm, 266, rfl⟩
abbrev main_call4_c_10 : Ref sig .tc := ⟨.hbm, 267, rfl⟩
abbrev main_call4_call1_v0 : Ref sig .tc := ⟨.hbm, 268, rfl⟩
abbrev main_call4_call1_v1 : Ref sig .tc := ⟨.hbm, 269, rfl⟩
abbrev main_call4_call1_v2 : Ref sig .tc := ⟨.hbm, 270, rfl⟩
abbrev main_call4_v35 : Ref sig .tc := ⟨.hbm, 271, rfl⟩
abbrev main_call4_cst_11 : Ref sig .tc := ⟨.hbm, 272, rfl⟩
abbrev main_call4_v36 : Ref sig .tc := ⟨.hbm, 273, rfl⟩
abbrev main_call4_v37 : Ref sig .tc := ⟨.hbm, 274, rfl⟩
abbrev main_call4_cst_12 : Ref sig .tc := ⟨.hbm, 275, rfl⟩
abbrev main_call4_v38 : Ref sig .tc := ⟨.hbm, 276, rfl⟩
abbrev main_call4_v39 : Ref sig .tc := ⟨.hbm, 277, rfl⟩
abbrev main_call4_v40 : Ref sig .tc := ⟨.hbm, 278, rfl⟩
abbrev main_call4_v41 : Ref sig .tc := ⟨.hbm, 279, rfl⟩
abbrev main_call4_c_13 : Ref sig .tc := ⟨.hbm, 280, rfl⟩
abbrev main_call4_call2_v0 : Ref sig .tc := ⟨.hbm, 281, rfl⟩
abbrev main_call4_call2_v1 : Ref sig .tc := ⟨.hbm, 282, rfl⟩
abbrev main_call4_call2_v2 : Ref sig .tc := ⟨.hbm, 283, rfl⟩
abbrev main_call4_v42 : Ref sig .tc := ⟨.hbm, 284, rfl⟩
abbrev main_v124 : Ref sig .tc := ⟨.hbm, 285, rfl⟩
abbrev main_v125 : Ref sig .tc := ⟨.hbm, 286, rfl⟩
abbrev main_cst_10 : Ref sig .tc := ⟨.hbm, 287, rfl⟩
abbrev main_v126 : Ref sig .tc := ⟨.hbm, 288, rfl⟩
abbrev main_v127 : Ref sig .tc := ⟨.hbm, 289, rfl⟩
abbrev main_cst_11 : Ref sig .tc := ⟨.hbm, 290, rfl⟩
abbrev main_v128 : Ref sig .tc := ⟨.hbm, 291, rfl⟩
abbrev main_v129 : Ref sig .tc := ⟨.hbm, 292, rfl⟩
abbrev main_v130 : Ref sig .tc := ⟨.hbm, 293, rfl⟩
abbrev main_v131 : Ref sig .tc := ⟨.hbm, 294, rfl⟩
abbrev main_cst_12 : Ref sig .tc := ⟨.hbm, 295, rfl⟩
abbrev main_v132 : Ref sig .tc := ⟨.hbm, 296, rfl⟩
abbrev main_v133 : Ref sig .tc := ⟨.hbm, 297, rfl⟩
abbrev main_cst_13 : Ref sig .tc := ⟨.hbm, 298, rfl⟩
abbrev main_v134 : Ref sig .tc := ⟨.hbm, 299, rfl⟩
abbrev main_v135 : Ref sig .tc := ⟨.hbm, 300, rfl⟩
abbrev main_cst_14 : Ref sig .tc := ⟨.hbm, 301, rfl⟩
abbrev main_v136 : Ref sig .tc := ⟨.hbm, 302, rfl⟩
abbrev main_v137 : Ref sig .tc := ⟨.hbm, 303, rfl⟩
abbrev main_v138 : Ref sig .tc := ⟨.hbm, 304, rfl⟩
abbrev main_v139 : Ref sig .tc := ⟨.hbm, 305, rfl⟩
abbrev main_v140 : Ref sig .tc := ⟨.hbm, 306, rfl⟩
abbrev main_v141 : Ref sig .tc := ⟨.hbm, 307, rfl⟩
abbrev main_values : Ref sig .tc := ⟨.hbm, 308, rfl⟩
abbrev main_indices : Ref sig .tc := ⟨.hbm, 309, rfl⟩
abbrev main_call5_c : Ref sig .tc := ⟨.hbm, 310, rfl⟩
abbrev main_call5_v0 : Ref sig .tc := ⟨.hbm, 311, rfl⟩
abbrev main_call5_v1 : Ref sig .tc := ⟨.hbm, 312, rfl⟩
abbrev main_call5_c_0 : Ref sig .tc := ⟨.hbm, 313, rfl⟩
abbrev main_call5_v2 : Ref sig .tc := ⟨.hbm, 314, rfl⟩
abbrev main_call5_v3 : Ref sig .tc := ⟨.hbm, 315, rfl⟩
abbrev main_call5_v4 : Ref sig .tc := ⟨.hbm, 316, rfl⟩
abbrev main_call5_v5 : Ref sig .tc := ⟨.hbm, 317, rfl⟩
abbrev main_call5_c_1 : Ref sig .tc := ⟨.hbm, 318, rfl⟩
abbrev main_call5_c_2 : Ref sig .tc := ⟨.hbm, 319, rfl⟩
abbrev main_call5_v6 : Ref sig .tc := ⟨.hbm, 320, rfl⟩
abbrev main_call5_v7 : Ref sig .tc := ⟨.hbm, 321, rfl⟩
abbrev main_call5_v8 : Ref sig .tc := ⟨.hbm, 322, rfl⟩
abbrev main_call5_v9 : Ref sig .tc := ⟨.hbm, 323, rfl⟩
abbrev main_call5_v10 : Ref sig .tc := ⟨.hbm, 324, rfl⟩
abbrev main_call5_v11 : Ref sig .tc := ⟨.hbm, 325, rfl⟩
abbrev main_call5_c_3 : Ref sig .tc := ⟨.hbm, 326, rfl⟩
abbrev main_call5_v12 : Ref sig .tc := ⟨.hbm, 327, rfl⟩
abbrev main_call5_v13 : Ref sig .tc := ⟨.hbm, 328, rfl⟩
abbrev main_call5_v14 : Ref sig .tc := ⟨.hbm, 329, rfl⟩
abbrev main_call5_cst : Ref sig .tc := ⟨.hbm, 330, rfl⟩
abbrev main_call5_v15 : Ref sig .tc := ⟨.hbm, 331, rfl⟩
abbrev main_v142 : Ref sig .tc := ⟨.hbm, 332, rfl⟩
abbrev main_c_15 : Ref sig .tc := ⟨.hbm, 333, rfl⟩
abbrev main_call6_v0 : Ref sig .tc := ⟨.hbm, 334, rfl⟩
abbrev main_call6_v1 : Ref sig .tc := ⟨.hbm, 335, rfl⟩
abbrev main_call6_v2 : Ref sig .tc := ⟨.hbm, 336, rfl⟩
abbrev main_call6_v3 : Ref sig .tc := ⟨.hbm, 337, rfl⟩
abbrev main_call6_v4 : Ref sig .tc := ⟨.hbm, 338, rfl⟩
abbrev main_call6_v5 : Ref sig .tc := ⟨.hbm, 339, rfl⟩
abbrev main_call6_v6 : Ref sig .tc := ⟨.hbm, 340, rfl⟩
abbrev main_call6_v7 : Ref sig .tc := ⟨.hbm, 341, rfl⟩
abbrev main_call6_v8 : Ref sig .tc := ⟨.hbm, 342, rfl⟩
abbrev main_call6_c : Ref sig .tc := ⟨.hbm, 343, rfl⟩
abbrev main_call6_v9 : Ref sig .tc := ⟨.hbm, 344, rfl⟩
abbrev main_call6_v10 : Ref sig .tc := ⟨.hbm, 345, rfl⟩
abbrev main_call6_v11 : Ref sig .tc := ⟨.hbm, 346, rfl⟩
abbrev main_call6_c_0 : Ref sig .tc := ⟨.hbm, 347, rfl⟩
abbrev main_call6_v12 : Ref sig .tc := ⟨.hbm, 348, rfl⟩
abbrev main_call6_v13 : Ref sig .tc := ⟨.hbm, 349, rfl⟩
abbrev main_v143 : Ref sig .tc := ⟨.hbm, 350, rfl⟩
abbrev main_c_16 : Ref sig .tc := ⟨.hbm, 351, rfl⟩
abbrev main_call7_v0 : Ref sig .tc := ⟨.hbm, 352, rfl⟩
abbrev main_call7_c : Ref sig .tc := ⟨.hbm, 353, rfl⟩
abbrev main_call7_v1 : Ref sig .tc := ⟨.hbm, 354, rfl⟩
abbrev main_call7_c_0 : Ref sig .tc := ⟨.hbm, 355, rfl⟩
abbrev main_call7_v2 : Ref sig .tc := ⟨.hbm, 356, rfl⟩
abbrev main_call7_v3 : Ref sig .tc := ⟨.hbm, 357, rfl⟩
abbrev main_call7_v4 : Ref sig .tc := ⟨.hbm, 358, rfl⟩
abbrev main_call7_c_1 : Ref sig .tc := ⟨.hbm, 359, rfl⟩
abbrev main_call7_v5 : Ref sig .tc := ⟨.hbm, 360, rfl⟩
abbrev main_call7_v6 : Ref sig .tc := ⟨.hbm, 361, rfl⟩
abbrev main_call7_c_2 : Ref sig .tc := ⟨.hbm, 362, rfl⟩
abbrev main_call7_v7 : Ref sig .tc := ⟨.hbm, 363, rfl⟩
abbrev main_call7_v8 : Ref sig .tc := ⟨.hbm, 364, rfl⟩
abbrev main_call7_c_3 : Ref sig .tc := ⟨.hbm, 365, rfl⟩
abbrev main_call7_v9 : Ref sig .tc := ⟨.hbm, 366, rfl⟩
abbrev main_call7_v10 : Ref sig .tc := ⟨.hbm, 367, rfl⟩
abbrev main_call7_v11 : Ref sig .tc := ⟨.hbm, 368, rfl⟩
abbrev main_call7_v12 : Ref sig .tc := ⟨.hbm, 369, rfl⟩
abbrev main_call7_v13 : Ref sig .tc := ⟨.hbm, 370, rfl⟩
abbrev main_call7_v14 : Ref sig .tc := ⟨.hbm, 371, rfl⟩
abbrev main_v144 : Ref sig .tc := ⟨.hbm, 372, rfl⟩
abbrev main_c_17 : Ref sig .tc := ⟨.hbm, 373, rfl⟩
abbrev main_call8_v0 : Ref sig .tc := ⟨.hbm, 374, rfl⟩
abbrev main_call8_v1 : Ref sig .tc := ⟨.hbm, 375, rfl⟩
abbrev main_call8_v2 : Ref sig .tc := ⟨.hbm, 376, rfl⟩
abbrev main_call8_v3 : Ref sig .tc := ⟨.hbm, 377, rfl⟩
abbrev main_call8_v4 : Ref sig .tc := ⟨.hbm, 378, rfl⟩
abbrev main_call8_v5 : Ref sig .tc := ⟨.hbm, 379, rfl⟩
abbrev main_call8_v6 : Ref sig .tc := ⟨.hbm, 380, rfl⟩
abbrev main_call8_v7 : Ref sig .tc := ⟨.hbm, 381, rfl⟩
abbrev main_call8_v8 : Ref sig .tc := ⟨.hbm, 382, rfl⟩
abbrev main_call8_c : Ref sig .tc := ⟨.hbm, 383, rfl⟩
abbrev main_call8_v9 : Ref sig .tc := ⟨.hbm, 384, rfl⟩
abbrev main_call8_v10 : Ref sig .tc := ⟨.hbm, 385, rfl⟩
abbrev main_call8_v11 : Ref sig .tc := ⟨.hbm, 386, rfl⟩
abbrev main_call8_c_0 : Ref sig .tc := ⟨.hbm, 387, rfl⟩
abbrev main_call8_v12 : Ref sig .tc := ⟨.hbm, 388, rfl⟩
abbrev main_call8_v13 : Ref sig .tc := ⟨.hbm, 389, rfl⟩
abbrev main_v145 : Ref sig .tc := ⟨.hbm, 390, rfl⟩
abbrev main_c_18 : Ref sig .tc := ⟨.hbm, 391, rfl⟩
abbrev main_v146 : Ref sig .tc := ⟨.hbm, 392, rfl⟩
abbrev main_v147 : Ref sig .tc := ⟨.hbm, 393, rfl⟩
abbrev main_c_19 : Ref sig .tc := ⟨.hbm, 394, rfl⟩
abbrev main_call9_v0 : Ref sig .tc := ⟨.hbm, 395, rfl⟩
abbrev main_call9_v1 : Ref sig .tc := ⟨.hbm, 396, rfl⟩
abbrev main_call9_v2 : Ref sig .tc := ⟨.hbm, 397, rfl⟩
abbrev main_call9_v3 : Ref sig .tc := ⟨.hbm, 398, rfl⟩
abbrev main_call9_v4 : Ref sig .tc := ⟨.hbm, 399, rfl⟩
abbrev main_call9_v5 : Ref sig .tc := ⟨.hbm, 400, rfl⟩
abbrev main_call9_v6 : Ref sig .tc := ⟨.hbm, 401, rfl⟩
abbrev main_call9_v7 : Ref sig .tc := ⟨.hbm, 402, rfl⟩
abbrev main_call9_v8 : Ref sig .tc := ⟨.hbm, 403, rfl⟩
abbrev main_call9_c : Ref sig .tc := ⟨.hbm, 404, rfl⟩
abbrev main_call9_v9 : Ref sig .tc := ⟨.hbm, 405, rfl⟩
abbrev main_call9_v10 : Ref sig .tc := ⟨.hbm, 406, rfl⟩
abbrev main_call9_v11 : Ref sig .tc := ⟨.hbm, 407, rfl⟩
abbrev main_call9_c_0 : Ref sig .tc := ⟨.hbm, 408, rfl⟩
abbrev main_call9_v12 : Ref sig .tc := ⟨.hbm, 409, rfl⟩
abbrev main_call9_v13 : Ref sig .tc := ⟨.hbm, 410, rfl⟩
abbrev main_v148 : Ref sig .tc := ⟨.hbm, 411, rfl⟩
abbrev main_v149 : Ref sig .tc := ⟨.hbm, 412, rfl⟩
abbrev main_v150 : Ref sig .tc := ⟨.hbm, 413, rfl⟩
abbrev main_v151 : Ref sig .tc := ⟨.hbm, 414, rfl⟩
abbrev main_call10_c : Ref sig .tc := ⟨.hbm, 415, rfl⟩
abbrev main_call10_v0 : Ref sig .tc := ⟨.hbm, 416, rfl⟩
abbrev main_call10_v1 : Ref sig .tc := ⟨.hbm, 417, rfl⟩
abbrev main_call10_c_0 : Ref sig .tc := ⟨.hbm, 418, rfl⟩
abbrev main_call10_v2 : Ref sig .tc := ⟨.hbm, 419, rfl⟩
abbrev main_call10_v3 : Ref sig .tc := ⟨.hbm, 420, rfl⟩
abbrev main_call10_v4 : Ref sig .tc := ⟨.hbm, 421, rfl⟩
abbrev main_call10_v5 : Ref sig .tc := ⟨.hbm, 422, rfl⟩
abbrev main_call10_c_1 : Ref sig .tc := ⟨.hbm, 423, rfl⟩
abbrev main_call10_c_2 : Ref sig .tc := ⟨.hbm, 424, rfl⟩
abbrev main_call10_v6 : Ref sig .tc := ⟨.hbm, 425, rfl⟩
abbrev main_call10_v7 : Ref sig .tc := ⟨.hbm, 426, rfl⟩
abbrev main_call10_v8 : Ref sig .tc := ⟨.hbm, 427, rfl⟩
abbrev main_call10_v9 : Ref sig .tc := ⟨.hbm, 428, rfl⟩
abbrev main_call10_v10 : Ref sig .tc := ⟨.hbm, 429, rfl⟩
abbrev main_call10_v11 : Ref sig .tc := ⟨.hbm, 430, rfl⟩
abbrev main_call10_c_3 : Ref sig .tc := ⟨.hbm, 431, rfl⟩
abbrev main_call10_v12 : Ref sig .tc := ⟨.hbm, 432, rfl⟩
abbrev main_call10_v13 : Ref sig .tc := ⟨.hbm, 433, rfl⟩
abbrev main_call10_v14 : Ref sig .tc := ⟨.hbm, 434, rfl⟩
abbrev main_call10_cst : Ref sig .tc := ⟨.hbm, 435, rfl⟩
abbrev main_call10_v15 : Ref sig .tc := ⟨.hbm, 436, rfl⟩
abbrev main_v152 : Ref sig .tc := ⟨.hbm, 437, rfl⟩
abbrev main_v153 : Ref sig .tc := ⟨.hbm, 438, rfl⟩
abbrev main_v154 : Ref sig .tc := ⟨.hbm, 439, rfl⟩
abbrev main_v155 : Ref sig .tc := ⟨.hbm, 440, rfl⟩
abbrev main_v156 : Ref sig .tc := ⟨.hbm, 441, rfl⟩
abbrev main_v157 : Ref sig .tc := ⟨.hbm, 442, rfl⟩
abbrev main_call11_cst : Ref sig .tc := ⟨.hbm, 443, rfl⟩
abbrev main_call11_v0 : Ref sig .tc := ⟨.hbm, 444, rfl⟩
abbrev main_v158 : Ref sig .tc := ⟨.hbm, 445, rfl⟩
abbrev main_v159 : Ref sig .tc := ⟨.hbm, 446, rfl⟩
abbrev main_v160 : Ref sig .tc := ⟨.hbm, 447, rfl⟩
abbrev main_v161 : Ref sig .tc := ⟨.hbm, 448, rfl⟩
abbrev main_v162 : Ref sig .tc := ⟨.hbm, 449, rfl⟩
abbrev main_v163 : Ref sig .tc := ⟨.hbm, 450, rfl⟩
abbrev main_v164 : Ref sig .tc := ⟨.hbm, 451, rfl⟩
abbrev main_cst_20 : Ref sig .tc := ⟨.hbm, 452, rfl⟩
abbrev main_v165 : Ref sig .tc := ⟨.hbm, 453, rfl⟩
abbrev main_v166 : Ref sig .tc := ⟨.hbm, 454, rfl⟩
abbrev main_cst_21 : Ref sig .tc := ⟨.hbm, 455, rfl⟩
abbrev main_v167 : Ref sig .tc := ⟨.hbm, 456, rfl⟩
abbrev main_v168 : Ref sig .tc := ⟨.hbm, 457, rfl⟩
abbrev main_v169 : Ref sig .tc := ⟨.hbm, 458, rfl⟩
abbrev main_v170 : Ref sig .tc := ⟨.hbm, 459, rfl⟩
abbrev main_cst_22 : Ref sig .tc := ⟨.hbm, 460, rfl⟩
abbrev main_v171 : Ref sig .tc := ⟨.hbm, 461, rfl⟩
abbrev main_v172 : Ref sig .tc := ⟨.hbm, 462, rfl⟩
abbrev main_v173 : Ref sig .tc := ⟨.hbm, 463, rfl⟩
abbrev main_v174 : Ref sig .tc := ⟨.hbm, 464, rfl⟩
abbrev main_call12_c : Ref sig .tc := ⟨.hbm, 465, rfl⟩
abbrev main_call12_v0 : Ref sig .tc := ⟨.hbm, 466, rfl⟩
abbrev main_call12_v1 : Ref sig .tc := ⟨.hbm, 467, rfl⟩
abbrev main_call12_c_0 : Ref sig .tc := ⟨.hbm, 468, rfl⟩
abbrev main_call12_v2 : Ref sig .tc := ⟨.hbm, 469, rfl⟩
abbrev main_call12_v3 : Ref sig .tc := ⟨.hbm, 470, rfl⟩
abbrev main_call12_v4 : Ref sig .tc := ⟨.hbm, 471, rfl⟩
abbrev main_call12_v5 : Ref sig .tc := ⟨.hbm, 472, rfl⟩
abbrev main_call12_c_1 : Ref sig .tc := ⟨.hbm, 473, rfl⟩
abbrev main_call12_c_2 : Ref sig .tc := ⟨.hbm, 474, rfl⟩
abbrev main_call12_v6 : Ref sig .tc := ⟨.hbm, 475, rfl⟩
abbrev main_call12_v7 : Ref sig .tc := ⟨.hbm, 476, rfl⟩
abbrev main_call12_v8 : Ref sig .tc := ⟨.hbm, 477, rfl⟩
abbrev main_call12_v9 : Ref sig .tc := ⟨.hbm, 478, rfl⟩
abbrev main_call12_v10 : Ref sig .tc := ⟨.hbm, 479, rfl⟩
abbrev main_call12_v11 : Ref sig .tc := ⟨.hbm, 480, rfl⟩
abbrev main_call12_c_3 : Ref sig .tc := ⟨.hbm, 481, rfl⟩
abbrev main_call12_v12 : Ref sig .tc := ⟨.hbm, 482, rfl⟩
abbrev main_call12_v13 : Ref sig .tc := ⟨.hbm, 483, rfl⟩
abbrev main_call12_cst : Ref sig .tc := ⟨.hbm, 484, rfl⟩
abbrev main_call12_v14 : Ref sig .tc := ⟨.hbm, 485, rfl⟩
abbrev main_v175 : Ref sig .tc := ⟨.hbm, 486, rfl⟩
abbrev main_cst_23 : Ref sig .tc := ⟨.hbm, 487, rfl⟩
abbrev main_v176 : Ref sig .tc := ⟨.hbm, 488, rfl⟩
abbrev main_v177 : Ref sig .tc := ⟨.hbm, 489, rfl⟩
abbrev main_v178 : Ref sig .tc := ⟨.hbm, 490, rfl⟩
abbrev main_v179 : Ref sig .tc := ⟨.hbm, 491, rfl⟩
abbrev main_c_24 : Ref sig .tc := ⟨.hbm, 492, rfl⟩
abbrev main_v180 : Ref sig .tc := ⟨.hbm, 493, rfl⟩
abbrev main_v181 : Ref sig .tc := ⟨.hbm, 494, rfl⟩
abbrev main_c_25 : Ref sig .tc := ⟨.hbm, 495, rfl⟩
abbrev main_v182 : Ref sig .tc := ⟨.hbm, 496, rfl⟩
abbrev main_v183 : Ref sig .tc := ⟨.hbm, 497, rfl⟩
abbrev main_v184 : Ref sig .tc := ⟨.hbm, 498, rfl⟩
abbrev main_v185 : Ref sig .tc := ⟨.hbm, 499, rfl⟩
abbrev main_v186 : Ref sig .tc := ⟨.hbm, 500, rfl⟩
abbrev main_v187 : Ref sig .tc := ⟨.hbm, 501, rfl⟩

abbrev nD : Nat := 1
abbrev τ : Topo := Topo.v7x

variable {F : FTy → Type} [FloatOps F]
-- ==== Proof.KernelIdeal.Calls.lean ====
/-
The first two calls of the kernel: what each body leaves from its input blocks, and the third call's input blocks.

-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__a1_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S27x128x512 := Rect.unit (s := S27x128x512) ![0, 0, 0] S27x128x512.size inb_S27x128x512_S27x128x512_0_0_0
abbrev r0_1 : Rect S32x27 := Rect.unit (s := S32x27) ![0, 0] S32x27.size inb_S32x27_S32x27_0_0
abbrev r0_2 : Rect S32x1 := Rect.unit (s := S32x1) ![0, 0] S32x1.size inb_S32x1_S32x1_0_0
abbrev r0_3 : Rect S32x32 := Rect.unit (s := S32x32) ![0, 0] S32x32.size inb_S32x32_S32x32_0_0
abbrev r0_4 : Rect S9x32 := Rect.unit (s := S9x32) ![0, 0] S9x32.size inb_S9x32_S9x32_0_0
abbrev r0_5 : Rect S32x128x512 := Rect.unit (s := S32x128x512) ![0, 0, 0] S32x128x512.size inb_S32x128x512_S32x128x512_0_0_0
abbrev r0_6 : Rect S9x128x512 := Rect.unit (s := S9x128x512) ![0, 0, 0] S9x128x512.size inb_S9x128x512_S9x128x512_0_0_0

/-! ## What the body leaves in each output window's buffer -/

/-- Window 5's staging buffer after the body, from the input windows' blocks: its 1 store as pieces, LAST
    FIRST (Lib/Pipeline/FrameBody.lean `View.canon`; the payloads are the skeleton's). -/
def out0_5 (x0 : Vec F S27x128x512 .f32) (x1 : Vec F S32x27 .f32) (x2 : Vec F S32x1 .f32) (x3 : Vec F S32x32 .f32) (x4 : Vec F S9x32 .f32) : Vec F S32x128x512 .f32 :=
  View.canon [⟨r0_5, k0_pay2 (View.ld x0 r0_0) (View.ld x1 r0_1) (View.ld x2 r0_2) (View.ld x3 r0_3)⟩]

/-- Its stores tile the buffer (checked by evaluation), so they cover it. -/
theorem cover0_5 (p0 : Vec F S32x128x512 .f32) (y : S32x128x512.Idx) :
    ∃ pc ∈ ([⟨r0_5, p0⟩] : List (View.Piece (Elt F) S32x128x512 .f32)), y ∈ pc.1.set :=
  View.cover_of_tiled [⟨r0_5, p0⟩] S32x128x512.size (by rfl) y

/-- Window 6's staging buffer after the body, from the input windows' blocks: its 1 store as pieces, LAST
    FIRST (Lib/Pipeline/FrameBody.lean `View.canon`; the payloads are the skeleton's). -/
def out0_6 (x0 : Vec F S27x128x512 .f32) (x1 : Vec F S32x27 .f32) (x2 : Vec F S32x1 .f32) (x3 : Vec F S32x32 .f32) (x4 : Vec F S9x32 .f32) : Vec F S9x128x512 .f32 :=
  View.canon [⟨r0_6, k0_pay3 (View.ld x0 r0_0) (View.ld x1 r0_1) (View.ld x2 r0_2) (View.ld x4 r0_4)⟩]

/-- Its stores tile the buffer (checked by evaluation), so they cover it. -/
theorem cover0_6 (p0 : Vec F S9x128x512 .f32) (y : S9x128x512.Idx) :
    ∃ pc ∈ ([⟨r0_6, p0⟩] : List (View.Piece (Elt F) S9x128x512 .f32)), y ∈ pc.1.set :=
  View.cover_of_tiled [⟨r0_6, p0⟩] S9x128x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S27x128x512 .f32) (harg1 : arg1.IsWhole) (arg2 : Memref sig .tc .vmem S32x27 .f32) (harg2 : arg2.IsWhole) (arg3 : Memref sig .tc .vmem S32x1 .f32) (harg3 : arg3.IsWhole) (arg4 : Memref sig .tc .vmem S32x32 .f32) (harg4 : arg4.IsWhole) (arg5 : Memref sig .tc .vmem S9x32 .f32) (harg5 : arg5.IsWhole) (arg6 : Memref sig .tc .vmem S32x128x512 .f32) (harg6 : arg6.IsWhole) (arg7 : Memref sig .tc .vmem S9x128x512 .f32) (harg7 : arg7.IsWhole)
    (x0 : Vec F S27x128x512 .f32) (x1 : Vec F S32x27 .f32) (x2 : Vec F S32x1 .f32) (x3 : Vec F S32x32 .f32) (x4 : Vec F S9x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__a1_body i arg1 harg1 arg2 harg2 arg3 harg3 arg4 harg4 arg5 harg5 arg6 harg6 arg7 harg7) K := by
  simp only [cc0__a1_body_eq_skeleton]; unfold cc0__a1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__a2_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1 := Rect.unit (s := S1x1) ![0, 0] S1x1.size inb_S1x1_S1x1_0_0
abbrev r1_1 : Rect S9x512x512 := Rect.unit (s := S9x512x512) ![0, 0, 0] S9x512x512.size inb_S9x512x512_S9x512x512_0_0_0
abbrev r1_2 : Rect S512x512 := Rect.unit (s := S512x512) ![0, 0] S512x512.size inb_S512x512_S512x512_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S9x512x512 .f32) (x1 : Vec F S1x1 .f32) : Vec F S512x512 .f32 :=
  View.canon [⟨r1_2, k1_pay1 (k1_pay2 (View.ld x0 r1_1)) (k1_pay3 (View.ld x1 r1_0) (View.ld x0 r1_1)) (k1_pay4 (View.ld x0 r1_1)) 0#32⟩]

/-- Its stores tile the buffer (checked by evaluation), so they cover it. -/
theorem cover1_2 (p0 : Vec F S512x512 .f32) (y : S512x512.Idx) :
    ∃ pc ∈ ([⟨r1_2, p0⟩] : List (View.Piece (Elt F) S512x512 .f32)), y ∈ pc.1.set :=
  View.cover_of_tiled [⟨r1_2, p0⟩] S512x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S9x512x512 .f32) (harg0 : arg0.IsWhole) (arg1 : Memref sig .tc .vmem S1x1 .f32) (harg1 : arg1.IsWhole) (arg2 : Memref sig .tc .vmem S512x512 .f32) (harg2 : arg2.IsWhole)
    (x0 : Vec F S9x512x512 .f32) (x1 : Vec F S1x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__a2_body arg0 harg0 arg1 harg1 arg2 harg2) K := by
  simp only [cc1__a2_body_eq_skeleton]; unfold cc1__a2_body_skel
  simp only [k1_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__b_body` (pipeline 2), at the entry contents `V` — class R -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 7, through which its contents are stated (`View.read_writes_of_cover`: the
    choice does not matter). -/
abbrev VO2_7 : View sig .tc .vmem S16x2048 .f32 := (Memref.whole cc2_stg7_0 : Memref sig .tc .vmem S16x2048 .f32).view
/-- Each window's current staging memref at point `t`, spelled as the pipeline passes it (`bodyAt2`), and its wholeness. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S3x16x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x1x4x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x4 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S32x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S16x2048 .f32 := win2_7.stage (cfg2.slots t 7)
abbrev hs2_7 (t : Fin cfg2.N) : (ms2_7 t).IsWhole := hstage2_7 ((cfg2.slots t 7).cast nbuf2_7)
/-- The scratch operands: whole scoped buffers of the kernel's own, passed beside the windows. -/
abbrev scM2_0 : Memref sig .tc .smem S1x1 .f32 := Memref.whole cc2_scratch0

/-- The frame kit's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ d, owns (c : Thread nD τ) scM2_0 fullShare d)) ∗ (∃ r, prngReg c r)) := by
  unfold Pipeline.ΦA; rw [scopedRest2_eq]; simp only [scM2_0, owns_whole]; try rfl

-- (the run's proof term is large: the definition's epilogue — `abstractNestedProofs` — walks it past the default budget)

end Cert.KernelIdeal.Body

end
-- ==== Proof.KernelIdeal.RunA.lean ====
/-
The third call's body at its first point, where the running count is started at zero.

-/
module

public import proofs.«01_k».proof.Proof.KernelIdeal.Calls

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 0).val) 0#32)) 0#32) = 1#1
/-- It holds at the first point only — by arithmetic of the point. -/
theorem hcond2_0 : ∀ t : Fin cfg2.N, cond2_0 (grid2.coords t) ↔ t.val % 128 = 0 :=
  (fun t => by
    have ht : t.val < 128 := Nat.lt_of_lt_of_eq t.isLt N_2
    have e0 : (grid2.coords t 0).val = t.val / 1 % 128 := Pipeline.Grid.coords_val t 0 (by decide) rfl
    simp only [cond2_0, e0]
    word_cmp
   : ∀ t : Fin grid2.N, cond2_0 (grid2.coords t) ↔ t.val % 128 = 0)

/-- The scratch that carries the running count, as a view. -/
abbrev VS2_0 : View sig .tc .smem S1x1 .f32 := scM2_0.view

set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .vmem S512x512 .f32) (harg1 : arg1.IsWhole) (arg2 : Memref sig .tc .vmem S3x16x2048 .f32) (harg2 : arg2.IsWhole) (arg3 : Memref sig .tc .vmem S32x1x4x512 .f32) (harg3 : arg3.IsWhole) (arg4 : Memref sig .tc .vmem S32x4 .f32) (harg4 : arg4.IsWhole) (arg5 : Memref sig .tc .vmem S32x1 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S16x2048 .f32) (harg8 : arg8.IsWhole) (arg9 : Memref sig .tc .smem S1x1 .f32) (harg9 : arg9.IsWhole) (hc0 : cond2_0 i)
    (x0 : Vec F S512x512 .f32) (x1 : Vec F S3x16x2048 .f32) (x2 : Vec F S32x1x4x512 .f32) (x3 : Vec F S32x4 .f32) (x4 : Vec F S32x1 .f32) (x5 : Vec F S1x32 .f32) (x6 : Vec F S1x1 .f32) :
    Σ' (L7 : List (View.Piece (Elt F) S16x2048 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc2__b_body i arg1 harg1 arg2 harg2 arg3 harg3 arg4 harg4 arg5 harg5 arg6 harg6 arg7 harg7 arg8 harg8 arg9 harg9) K } := by
  refine ⟨?_, ?_, fun E K => ?run⟩
  case run =>
    simp only [cc2__b_body_eq_skeleton]; unfold cc2__b_body_skel
    simp only [k2_part1_eq_skeleton, k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.KernelIdeal.Body

end
-- ==== Proof.KernelIdeal.RunB.lean ====
/-
The third call's body at a later point, where the running count is the one the point before left.

-/
module

public import proofs.«01_k».proof.Proof.KernelIdeal.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first) IN CASE B (`scf.if` 0 not taken: points 1, 2, … 127: 127 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .vmem S512x512 .f32) (harg1 : arg1.IsWhole) (arg2 : Memref sig .tc .vmem S3x16x2048 .f32) (harg2 : arg2.IsWhole) (arg3 : Memref sig .tc .vmem S32x1x4x512 .f32) (harg3 : arg3.IsWhole) (arg4 : Memref sig .tc .vmem S32x4 .f32) (harg4 : arg4.IsWhole) (arg5 : Memref sig .tc .vmem S32x1 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S16x2048 .f32) (harg8 : arg8.IsWhole) (arg9 : Memref sig .tc .smem S1x1 .f32) (harg9 : arg9.IsWhole) (hc0 : ¬cond2_0 i)
    (x0 : Vec F S512x512 .f32) (x1 : Vec F S3x16x2048 .f32) (x2 : Vec F S32x1x4x512 .f32) (x3 : Vec F S32x4 .f32) (x4 : Vec F S32x1 .f32) (x5 : Vec F S1x32 .f32) (x6 : Vec F S1x1 .f32) (xs0 : Vec F S1x1 .f32) :
    Σ' (L7 : List (View.Piece (Elt F) S16x2048 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc2__b_body i arg1 harg1 arg2 harg2 arg3 harg3 arg4 harg4 arg5 harg5 arg6 harg6 arg7 harg7 arg8 harg8 arg9 harg9) K } := by
  refine ⟨?_, ?_, fun E K => ?run⟩
  case run =>
    simp only [cc2__b_body_eq_skeleton]; unfold cc2__b_body_skel
    simp only [k2_part1_eq_skeleton, k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.KernelIdeal.Body

end
-- ==== Proof.KernelIdeal.Point.lean ====
/-
The third call point by point: the block each point leaves and the running count it hands on.

-/
module

public import proofs.«01_k».proof.Proof.KernelIdeal.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers of the first two calls, which the third call never touches, each at some contents. -/
def rest2 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

/-- What the launch hands the third call: its scratch, the other calls' buffers, the generator register. -/
theorem PhiA2_open (c : Dev nD) : (Pipeline.ΦA spec2 c : sProp 𝕄)
    ⊢ iprop(((∃ d, owns (c : Thread nD τ) scM2_0 fullShare d) ∗ rest2 (F := F) c) ∗ (∃ r, prngReg c r)) := by
  rw [PhiA2_eq]; unfold rest2
  iintro ⟨⟨HR0, HR1, HR2, HR3, HR4, HR5, HR6, HR7, HR8, HR9, HR10, HR11, HR12, HS0⟩, Hg⟩
  isplitr [Hg]
  · isplitl [HS0]; · iexact HS0
    isplitl [HR0]; (· iexact HR0); isplitl [HR1]; (· iexact HR1); isplitl [HR2]; (· iexact HR2); isplitl [HR3]; (· iexact HR3); isplitl [HR4]; (· iexact HR4); isplitl [HR5]; (· iexact HR5); isplitl [HR6]; (· iexact HR6); isplitl [HR7]; (· iexact HR7); isplitl [HR8]; (· iexact HR8); isplitl [HR9]; (· iexact HR9); isplitl [HR10]; (· iexact HR10); isplitl [HR11]; (· iexact HR11)
    iexact HR12
  iexact Hg

/-- The same read backwards. -/
theorem PhiA2_close (c : Dev nD) : iprop(((∃ d, owns (c : Thread nD τ) scM2_0 fullShare d) ∗ rest2 (F := F) c) ∗ (∃ r, prngReg c r))
    ⊢ (Pipeline.ΦA spec2 c : sProp 𝕄) := by
  rw [PhiA2_eq]; unfold rest2
  iintro ⟨⟨HS0, HR0, HR1, HR2, HR3, HR4, HR5, HR6, HR7, HR8, HR9, HR10, HR11, HR12⟩, Hg⟩
  isplitr [Hg]
  · isplitl [HR0]; (· iexact HR0); isplitl [HR1]; (· iexact HR1); isplitl [HR2]; (· iexact HR2); isplitl [HR3]; (· iexact HR3); isplitl [HR4]; (· iexact HR4); isplitl [HR5]; (· iexact HR5); isplitl [HR6]; (· iexact HR6); isplitl [HR7]; (· iexact HR7); isplitl [HR8]; (· iexact HR8); isplitl [HR9]; (· iexact HR9); isplitl [HR10]; (· iexact HR10); isplitl [HR11]; (· iexact HR11); isplitl [HR12]; (· iexact HR12)
    iexact HS0
  iexact Hg

theorem cover2_A_7 (c : Dev nD) (i : grid2.Coords) (arg1 : Memref sig .tc .vmem S512x512 .f32) (harg1 : arg1.IsWhole) (arg2 : Memref sig .tc .vmem S3x16x2048 .f32) (harg2 : arg2.IsWhole) (arg3 : Memref sig .tc .vmem S32x1x4x512 .f32) (harg3 : arg3.IsWhole) (arg4 : Memref sig .tc .vmem S32x4 .f32) (harg4 : arg4.IsWhole) (arg5 : Memref sig .tc .vmem S32x1 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S16x2048 .f32) (harg8 : arg8.IsWhole) (arg9 : Memref sig .tc .smem S1x1 .f32) (harg9 : arg9.IsWhole) (hc0 : cond2_0 i)
    (x0 : Vec F S512x512 .f32) (x1 : Vec F S3x16x2048 .f32) (x2 : Vec F S32x1x4x512 .f32) (x3 : Vec F S32x4 .f32) (x4 : Vec F S32x1 .f32) (x5 : Vec F S1x32 .f32) (x6 : Vec F S1x1 .f32) (y : S16x2048.Idx) :
    ∃ pc ∈ (kernelRun2_A c i arg1 harg1 arg2 harg2 arg3 harg3 arg4 harg4 arg5 harg5 arg6 harg6 arg7 harg7 arg8 harg8 arg9 harg9 hc0 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5 x6).1 S16x2048.size (by sl_kernel_rfl) y

/-- What case A leaves in output 7's staging buffer: its pieces read back over junk. -/
def out2_A_7 (c : Dev nD) (i : grid2.Coords) (arg1 : Memref sig .tc .vmem S512x512 .f32) (harg1 : arg1.IsWhole) (arg2 : Memref sig .tc .vmem S3x16x2048 .f32) (harg2 : arg2.IsWhole) (arg3 : Memref sig .tc .vmem S32x1x4x512 .f32) (harg3 : arg3.IsWhole) (arg4 : Memref sig .tc .vmem S32x4 .f32) (harg4 : arg4.IsWhole) (arg5 : Memref sig .tc .vmem S32x1 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S16x2048 .f32) (harg8 : arg8.IsWhole) (arg9 : Memref sig .tc .smem S1x1 .f32) (harg9 : arg9.IsWhole) (hc0 : cond2_0 i)
    (x0 : Vec F S512x512 .f32) (x1 : Vec F S3x16x2048 .f32) (x2 : Vec F S32x1x4x512 .f32) (x3 : Vec F S32x4 .f32) (x4 : Vec F S32x1 .f32) (x5 : Vec F S1x32 .f32) (x6 : Vec F S1x1 .f32) : Vec F S16x2048 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 hc0 x0 x1 x2 x3 x4 x5 x6).1)

/-- Case A's pieces for scratch `arg9`, which the kernel carries between points, cover it: 2 pieces of `S1x1` tiling it (Lib/Ring.lean `Piece.tiledL`). -/
theorem scover2_A_0 (c : Dev nD) (i : grid2.Coords) (arg1 : Memref sig .tc .vmem S512x512 .f32) (harg1 : arg1.IsWhole) (arg2 : Memref sig .tc .vmem S3x16x2048 .f32) (harg2 : arg2.IsWhole) (arg3 : Memref sig .tc .vmem S32x1x4x512 .f32) (harg3 : arg3.IsWhole) (arg4 : Memref sig .tc .vmem S32x4 .f32) (harg4 : arg4.IsWhole) (arg5 : Memref sig .tc .vmem S32x1 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S16x2048 .f32) (harg8 : arg8.IsWhole) (arg9 : Memref sig .tc .smem S1x1 .f32) (harg9 : arg9.IsWhole) (hc0 : cond2_0 i)
    (x0 : Vec F S512x512 .f32) (x1 : Vec F S3x16x2048 .f32) (x2 : Vec F S32x1x4x512 .f32) (x3 : Vec F S32x4 .f32) (x4 : Vec F S32x1 .f32) (x5 : Vec F S1x32 .f32) (x6 : Vec F S1x1 .f32) (y : S1x1.Idx) :
    ∃ pc ∈ (kernelRun2_A c i arg1 harg1 arg2 harg2 arg3 harg3 arg4 harg4 arg5 harg5 arg6 harg6 arg7 harg7 arg8 harg8 arg9 harg9 hc0 x0 x1 x2 x3 x4 x5 x6).2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5 x6).2.1 S1x1.size (by sl_kernel_rfl) y

/-- What case A leaves in scratch `arg9`: its pieces read back over junk. -/
def sout2_A_0 (c : Dev nD) (i : grid2.Coords) (arg1 : Memref sig .tc .vmem S512x512 .f32) (harg1 : arg1.IsWhole) (arg2 : Memref sig .tc .vmem S3x16x2048 .f32) (harg2 : arg2.IsWhole) (arg3 : Memref sig .tc .vmem S32x1x4x512 .f32) (harg3 : arg3.IsWhole) (arg4 : Memref sig .tc .vmem S32x4 .f32) (harg4 : arg4.IsWhole) (arg5 : Memref sig .tc .vmem S32x1 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S16x2048 .f32) (harg8 : arg8.IsWhole) (arg9 : Memref sig .tc .smem S1x1 .f32) (harg9 : arg9.IsWhole) (hc0 : cond2_0 i)
    (x0 : Vec F S512x512 .f32) (x1 : Vec F S3x16x2048 .f32) (x2 : Vec F S32x1x4x512 .f32) (x3 : Vec F S32x4 .f32) (x4 : Vec F S32x1 .f32) (x5 : Vec F S1x32 .f32) (x6 : Vec F S1x1 .f32) : Vec F S1x1 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 x0 x1 x2 x3 x4 x5 x6).2.1)

/-- Case B's pieces for output 7 tile its block (1 store of `S16x2048`, checked by the kernel's evaluation: Lib/Ring.lean `Piece.tiledL`, linear in the pieces, through a loop's `@[irreducible]` trip theorem too), so they cover it. -/
theorem cover2_B_7 (c : Dev nD) (i : grid2.Coords) (arg1 : Memref sig .tc .vmem S512x512 .f32) (harg1 : arg1.IsWhole) (arg2 : Memref sig .tc .vmem S3x16x2048 .f32) (harg2 : arg2.IsWhole) (arg3 : Memref sig .tc .vmem S32x1x4x512 .f32) (harg3 : arg3.IsWhole) (arg4 : Memref sig .tc .vmem S32x4 .f32) (harg4 : arg4.IsWhole) (arg5 : Memref sig .tc .vmem S32x1 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S16x2048 .f32) (harg8 : arg8.IsWhole) (arg9 : Memref sig .tc .smem S1x1 .f32) (harg9 : arg9.IsWhole) (hc0 : ¬cond2_0 i)
    (x0 : Vec F S512x512 .f32) (x1 : Vec F S3x16x2048 .f32) (x2 : Vec F S32x1x4x512 .f32) (x3 : Vec F S32x4 .f32) (x4 : Vec F S32x1 .f32) (x5 : Vec F S1x32 .f32) (x6 : Vec F S1x1 .f32) (xs0 : Vec F S1x1 .f32) (y : S16x2048.Idx) :
    ∃ pc ∈ (kernelRun2_B c i arg1 harg1 arg2 harg2 arg3 harg3 arg4 harg4 arg5 harg5 arg6 harg6 arg7 harg7 arg8 harg8 arg9 harg9 hc0 x0 x1 x2 x3 x4 x5 x6 xs0).1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 x6 xs0).1 S16x2048.size (by sl_kernel_rfl) y

/-- What case B leaves in output 7's staging buffer: its pieces read back over junk. -/
def out2_B_7 (c : Dev nD) (i : grid2.Coords) (arg1 : Memref sig .tc .vmem S512x512 .f32) (harg1 : arg1.IsWhole) (arg2 : Memref sig .tc .vmem S3x16x2048 .f32) (harg2 : arg2.IsWhole) (arg3 : Memref sig .tc .vmem S32x1x4x512 .f32) (harg3 : arg3.IsWhole) (arg4 : Memref sig .tc .vmem S32x4 .f32) (harg4 : arg4.IsWhole) (arg5 : Memref sig .tc .vmem S32x1 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S16x2048 .f32) (harg8 : arg8.IsWhole) (arg9 : Memref sig .tc .smem S1x1 .f32) (harg9 : arg9.IsWhole) (hc0 : ¬cond2_0 i)
    (x0 : Vec F S512x512 .f32) (x1 : Vec F S3x16x2048 .f32) (x2 : Vec F S32x1x4x512 .f32) (x3 : Vec F S32x4 .f32) (x4 : Vec F S32x1 .f32) (x5 : Vec F S1x32 .f32) (x6 : Vec F S1x1 .f32) (xs0 : Vec F S1x1 .f32) : Vec F S16x2048 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 hc0 x0 x1 x2 x3 x4 x5 x6 xs0).1)

/-- Case B's pieces for scratch `arg9`, which the kernel carries between points, cover it: 1 piece of `S1x1` tiling it (Lib/Ring.lean `Piece.tiledL`). -/
theorem scover2_B_0 (c : Dev nD) (i : grid2.Coords) (arg1 : Memref sig .tc .vmem S512x512 .f32) (harg1 : arg1.IsWhole) (arg2 : Memref sig .tc .vmem S3x16x2048 .f32) (harg2 : arg2.IsWhole) (arg3 : Memref sig .tc .vmem S32x1x4x512 .f32) (harg3 : arg3.IsWhole) (arg4 : Memref sig .tc .vmem S32x4 .f32) (harg4 : arg4.IsWhole) (arg5 : Memref sig .tc .vmem S32x1 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S16x2048 .f32) (harg8 : arg8.IsWhole) (arg9 : Memref sig .tc .smem S1x1 .f32) (harg9 : arg9.IsWhole) (hc0 : ¬cond2_0 i)
    (x0 : Vec F S512x512 .f32) (x1 : Vec F S3x16x2048 .f32) (x2 : Vec F S32x1x4x512 .f32) (x3 : Vec F S32x4 .f32) (x4 : Vec F S32x1 .f32) (x5 : Vec F S1x32 .f32) (x6 : Vec F S1x1 .f32) (xs0 : Vec F S1x1 .f32) (y : S1x1.Idx) :
    ∃ pc ∈ (kernelRun2_B c i arg1 harg1 arg2 harg2 arg3 harg3 arg4 harg4 arg5 harg5 arg6 harg6 arg7 harg7 arg8 harg8 arg9 harg9 hc0 x0 x1 x2 x3 x4 x5 x6 xs0).2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 x6 xs0).2.1 S1x1.size (by sl_kernel_rfl) y

/-- What case B leaves in scratch `arg9`: its pieces read back over junk. -/
def sout2_B_0 (c : Dev nD) (i : grid2.Coords) (arg1 : Memref sig .tc .vmem S512x512 .f32) (harg1 : arg1.IsWhole) (arg2 : Memref sig .tc .vmem S3x16x2048 .f32) (harg2 : arg2.IsWhole) (arg3 : Memref sig .tc .vmem S32x1x4x512 .f32) (harg3 : arg3.IsWhole) (arg4 : Memref sig .tc .vmem S32x4 .f32) (harg4 : arg4.IsWhole) (arg5 : Memref sig .tc .vmem S32x1 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S16x2048 .f32) (harg8 : arg8.IsWhole) (arg9 : Memref sig .tc .smem S1x1 .f32) (harg9 : arg9.IsWhole) (hc0 : ¬cond2_0 i)
    (x0 : Vec F S512x512 .f32) (x1 : Vec F S3x16x2048 .f32) (x2 : Vec F S32x1x4x512 .f32) (x3 : Vec F S32x4 .f32) (x4 : Vec F S32x1 .f32) (x5 : Vec F S1x32 .f32) (x6 : Vec F S1x1 .f32) (xs0 : Vec F S1x1 .f32) : Vec F S1x1 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 x0 x1 x2 x3 x4 x5 x6 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S16x2048 .f32 × Vec F S1x1 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 128 = 0 then
      (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)

/-- `outsAt2` at a point of case A: that case's contents. -/
theorem outsAt2_A (c : Dev nD) (t : Fin cfg2.N) (h0 : t.val % 128 = 0) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 128 = 0) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt2`; the invariant the class's
    (`PhiS2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 6400000 in
/-- The body at any point: the inputs' memrefs hold their blocks (`before2_W`); the closed forms say which case the point is in (`by_cases`), an output the case reads before covering holds what the point before left (`before2_W_κ`); so the
    run applies; the invariant hands the body the carried scratch at what the point before left (`PhiS2_pos`; at anything at the first point, `PhiS2_zero`), the other scratch buffers and the generator register at some state, and takes the carried scratch back at this point's contents (`PhiS2_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    after2_0, after2_1, after2_2, after2_3, after2_4, after2_5, after2_6, after2_7]
  rw [show (dat2 V c).Φ t.succ = PhiS2 V c (t.val + 1) t.isLt from rfl, PhiS2_succ]
  have hN : t.val < 128 := lt_of_lt_of_eq t.isLt (show cfg2.N = 128 from N_2)
  by_cases h0 : t.val % 128 = 0
  · by_cases hz : t.val = 0
    · rw [PhiS2_castSucc V c t, PhiS2_zero V c _ _ hz]
      rw [outsAt2_A V c t h0]
      unfold out2_A_7 sout2_A_0; (try dsimp only)
      iintro ⟨HA, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HB := PhiA2_open c $$ HA
      icases HB with ⟨⟨HS0, HR⟩, Hg⟩
      iapply ((kernelRun2_A c (grid2.coords t) _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 HR Hg]
      · isplitl [HS0 HR]
        · isplitr [HR]
          swap; · iexact HR
          unfold owns; iexists _; isplitr
          swap; · iexact HS0
          ipureintro; exact View.read_writes_of_cover _ _ _ _ _ (scover2_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover2_A_7 c _ _ _ _ _ _ _ _ _ _ _ _ _ _ _ _ _ _ _ _ _ _ _ _ _ _ _)
    · exfalso; have hN : t.val < 128 := lt_of_lt_of_eq t.isLt (show cfg2.N = 128 from N_2); omega
  · by_cases hz : t.val = 0
    · exfalso; have hN : t.val < 128 := lt_of_lt_of_eq t.isLt (show cfg2.N = 128 from N_2); omega
    · rw [PhiS2_castSucc V c t, PhiS2_pos V c _ _ hz]
      rw [outsAt2_B V c t h0]
      unfold out2_B_7 sout2_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 HR Hg]
      · isplitl [HS0 HR]
        · isplitr [HR]
          swap; · iexact HR
          unfold owns; iexists _; isplitr
          swap; · iexact HS0
          ipureintro; exact View.read_writes_of_cover _ _ _ _ _ (scover2_B_0 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover2_B_7 c _ _ _ _ _ _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨⟨HS0, HR⟩, Hg⟩
  iapply (PhiA2_close c)
  isplitr [Hg]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Cert.KernelIdeal.Body

end
-- ==== Proof.KernelIdeal.Frame.lean ====
/-
The program's contents from boundary to boundary, its run as segments, and its frame.

-/
module

public import proofs.«01_k».proof.Proof.KernelIdeal.Point
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v96]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v98, main_v99, main_v100, main_v101]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v103]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2` (region 2's entry). -/
abbrev W7 : Dev nD → Valuation τ sig (Elt F) := fun c => StableHlo.after hostOps2 (W6 m ρ c)
/-- A reference `hostOps2` does not write keeps its contents across it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)
/-- The same read at the TensorCore's references (what region 2's proof data take). -/
abbrev V7 : (c : Dev nD) → (b : Ref sig .tc) → Buf (Elt F) ((c : Thread nD τ).loc b) := fun c b => W7 m ρ c b
/-- At region 2's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- A reference that is none of region 2's OUTPUT arrays keeps its entry contents across it: an input window's
    array is never written back (`Dat.arrAt_in`, `A_eq2`); any other buffer is left as is. -/
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn2 a ha)).trans (W7_args m ρ c a ha)
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After `hostOps3`. -/
abbrev W9 : Dev nD → Valuation τ sig (Elt F) := fun c => StableHlo.after hostOps3 (W8 m ρ c)
/-- A reference `hostOps3` does not write keeps its contents across it. -/
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W9_args (c : Dev nD) : ∀ a ∈ argRefs, W9 m ρ c (Proc.devRef .tc a) = m ((c : Thread nD τ).loc a) :=
  fun a ha => (W9_of m ρ c a (hostOps3_args a ha)).trans (W8_args m ρ c a ha)

/-! ### The arguments end as launched: no host stretch writes one and no region may change one (a region reads it
    through an input window or bypasses it) -/

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)
theorem W9_main_arg3 (c : Dev nD) : W9 m ρ c (Proc.devRef .tc main_arg3) = m ((c : Thread nD τ).loc main_arg3) :=
  W9_args m ρ c main_arg3 (by decide)
theorem W9_main_arg4 (c : Dev nD) : W9 m ρ c (Proc.devRef .tc main_arg4) = m ((c : Thread nD τ).loc main_arg4) :=
  W9_args m ρ c main_arg4 (by decide)
theorem W9_main_arg5 (c : Dev nD) : W9 m ρ c (Proc.devRef .tc main_arg5) = m ((c : Thread nD τ).loc main_arg5) :=
  W9_args m ρ c main_arg5 (by decide)
theorem W9_main_arg6 (c : Dev nD) : W9 m ρ c (Proc.devRef .tc main_arg6) = m ((c : Thread nD τ).loc main_arg6) :=
  W9_args m ρ c main_arg6 (by decide)
theorem W9_main_arg7 (c : Dev nD) : W9 m ρ c (Proc.devRef .tc main_arg7) = m ((c : Thread nD τ).loc main_arg7) :=
  W9_args m ρ c main_arg7 (by decide)
theorem W9_main_arg8 (c : Dev nD) : W9 m ρ c (Proc.devRef .tc main_arg8) = m ((c : Thread nD τ).loc main_arg8) :=
  W9_args m ρ c main_arg8 (by decide)
theorem W9_main_arg9 (c : Dev nD) : W9 m ρ c (Proc.devRef .tc main_arg9) = m ((c : Thread nD τ).loc main_arg9) :=
  W9_args m ρ c main_arg9 (by decide)
theorem W9_main_arg10 (c : Dev nD) : W9 m ρ c (Proc.devRef .tc main_arg10) = m ((c : Thread nD τ).loc main_arg10) :=
  W9_args m ρ c main_arg10 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V7 m ρ) c).Φ 0 from rfl]
    iintro ⟨Hp, -, Hr⟩
    iapply (hin2 (V7 m ρ) c)
    unfold Pipeline.ΦA
    isplitl [Hr]; · iexact Hr
    iexact Hp
  hout c := by
    rw [Pipeline.ownSems0_none, show (pdats m ρ 2 c).Φ (Fin.last _) = (dat2 (V7 m ρ) c).Φ (Fin.last cfg2.N) from rfl]
    iintro HF
    ihave HA := (hout2 (V7 m ρ) c) $$ HF
    unfold Pipeline.ΦA
    icases HA with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of the program ends with every unscoped buffer at the contents the segments compute and
    every semaphore at zero. -/
theorem run_all : θ_run defs (onTc (τ := τ) (main (F := F))) ⟨m, fun _ => 0, ρ⟩ (fun r => (∀ c : Dev nD,
      ∀ b ∈ Pipeline.ucRefs τ sig, r.2.mem ((c : Dev nD), b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- Every run of the program ends with its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c =>
      ⟨(h.1 c _ (mem_uc main_arg0 (by decide))).trans (W9_main_arg0 m ρ c),
       (h.1 c _ (mem_uc main_arg1 (by decide))).trans (W9_main_arg1 m ρ c),
       (h.1 c _ (mem_uc main_arg2 (by decide))).trans (W9_main_arg2 m ρ c),
       (h.1 c _ (mem_uc main_arg3 (by decide))).trans (W9_main_arg3 m ρ c),
       (h.1 c _ (mem_uc main_arg4 (by decide))).trans (W9_main_arg4 m ρ c),
       (h.1 c _ (mem_uc main_arg5 (by decide))).trans (W9_main_arg5 m ρ c),
       (h.1 c _ (mem_uc main_arg6 (by decide))).trans (W9_main_arg6 m ρ c),
       (h.1 c _ (mem_uc main_arg7 (by decide))).trans (W9_main_arg7 m ρ c),
       (h.1 c _ (mem_uc main_arg8 (by decide))).trans (W9_main_arg8 m ρ c),
       (h.1 c _ (mem_uc main_arg9 (by decide))).trans (W9_main_arg9 m ρ c),
       (h.1 c _ (mem_uc main_arg10 (by decide))).trans (W9_main_arg10 m ρ c)⟩, h.2⟩) (run_all m ρ)

end Cert.KernelIdeal.Body

end
-- ==== Proof.Value.CallA.lean ====
/- The first call's two results, read at an index: the context's products and the nine tap images of the feature. -/
module
public import proofs.«01_k».proof.Proof.KernelIdeal.Frame
public import Idealize.ShloMosaic.Lib.Pointwise
public import Idealize.ShloMosaic.Lib.Tactic
public import Idealize.ShloMosaic.Lib.Tactic.CleanTypes
public import Idealize.ShloMosaic.Lib.Pipeline.ValueKit
@[expose] public section
set_option maxRecDepth 16384
noncomputable section
namespace Cert.KernelIdeal.Body
open Idealize.ShloMosaic Idealize.ShloMosaic.TcCoe Idealize.SL.Sem Cert.KernelIdeal
open Idealize.ShloMosaic.Pipeline (Dat)

variable (V : (c : Dev nD) → (b : Ref sig .tc) → Buf (Elt Ideal) ((c : Thread nD τ).loc b)) (c : Dev nD)

/-- The row of the array at which row `y` of block `t` of 128 rows stands. -/
def rowA (t : Fin cfg0.N) (y : Fin 128) : Fin 512 := ⟨t.val * 128 + y.val, by
  have h := lt_of_lt_of_eq t.isLt (show cfg0.N = 4 from by decide +kernel); omega⟩

/-- The block the window takes at a point. -/
theorem idxA0 : ∀ t : Fin cfg0.N, win0_0.index t = ![0, t.val, 0] :=
  (by decide +kernel : ∀ t : Fin grid0.N, win0_0.index t = ![0, t.val, 0])
/-- The block the window takes at a point. -/
theorem idxA5 : ∀ t : Fin cfg0.N, win0_5.index t = ![0, t.val, 0] :=
  (by decide +kernel : ∀ t : Fin grid0.N, win0_5.index t = ![0, t.val, 0])
/-- The block the window takes at a point. -/
theorem idxA6 : ∀ t : Fin cfg0.N, win0_6.index t = ![0, t.val, 0] :=
  (by decide +kernel : ∀ t : Fin grid0.N, win0_6.index t = ![0, t.val, 0])
/-- The block the window takes at a point. -/
theorem idxA1 : ∀ t : Fin cfg0.N, win0_1.index t = ![0, 0] :=
  (by decide +kernel : ∀ t : Fin grid0.N, win0_1.index t = ![0, 0])
/-- The block the window takes at a point. -/
theorem idxA2 : ∀ t : Fin cfg0.N, win0_2.index t = ![0, 0] :=
  (by decide +kernel : ∀ t : Fin grid0.N, win0_2.index t = ![0, 0])
/-- The block the window takes at a point. -/
theorem idxA3 : ∀ t : Fin cfg0.N, win0_3.index t = ![0, 0] :=
  (by decide +kernel : ∀ t : Fin grid0.N, win0_3.index t = ![0, 0])
/-- The block the window takes at a point. -/
theorem idxA4 : ∀ t : Fin cfg0.N, win0_4.index t = ![0, 0] :=
  (by decide +kernel : ∀ t : Fin grid0.N, win0_4.index t = ![0, 0])

/-- The image block of point `t`, an entry of the image array. -/
theorem iblkA0 (t : Fin cfg0.N) (k : Fin 27) (y : Fin 128) (s : Fin 512) :
    iblk0 V c 0 t (ix3 k y s) = V c main_v86 (ix3 k (rowA t y) s) := by
  blk_simp [iblk0]
  refine congrArg (V c main_v86) ?_
  funext a
  apply Fin.ext
  blk_simp [idxA0]
  match a with
  | 0 => simp
  | 1 => simp [rowA]
  | 2 => simp

/-- The block of a point, read as an entry of its array. -/
theorem iblkA1 (t : Fin cfg0.N) (k : Fin 32) (m : Fin 27) :
    iblk0 V c 1 t (ix2 k m) = V c main_v87 (ix2 k m) := by
  blk_simp [iblk0]
  refine congrArg (V c main_v87) ?_
  funext a
  apply Fin.ext
  blk_simp [idxA1]
  match a with
  | 0 => simp
  | 1 => simp

/-- The block of a point, read as an entry of its array. -/
theorem iblkA2 (t : Fin cfg0.N) (k : Fin 32) (m : Fin 1) :
    iblk0 V c 2 t (ix2 k m) = V c main_v94 (ix2 k m) := by
  blk_simp [iblk0]
  refine congrArg (V c main_v94) ?_
  funext a
  apply Fin.ext
  blk_simp [idxA2]
  match a with
  | 0 => simp
  | 1 => simp

/-- The block of a point, read as an entry of its array. -/
theorem iblkA3 (t : Fin cfg0.N) (k : Fin 32) (m : Fin 32) :
    iblk0 V c 3 t (ix2 k m) = V c main_v91 (ix2 k m) := by
  blk_simp [iblk0]
  refine congrArg (V c main_v91) ?_
  funext a
  apply Fin.ext
  blk_simp [idxA3]
  match a with
  | 0 => simp
  | 1 => simp

/-- The block of a point, read as an entry of its array. -/
theorem iblkA4 (t : Fin cfg0.N) (k : Fin 9) (m : Fin 32) :
    iblk0 V c 4 t (ix2 k m) = V c main_v89 (ix2 k m) := by
  blk_simp [iblk0]
  refine congrArg (V c main_v89) ?_
  funext a
  apply Fin.ext
  blk_simp [idxA4]
  match a with
  | 0 => simp
  | 1 => simp

/-- The image's 27 shifted planes, as the first call receives them. -/
def arrX (m : Fin 27) (r s : Fin 512) : EReal := V c main_v86 (ix3 m r s)
/-- The first convolution's weights by channel and plane. -/
def arrW (k : Fin 32) (m : Fin 27) : EReal := V c main_v87 (ix2 k m)
/-- The first convolution's bias. -/
def arrB (k : Fin 32) : EReal := V c main_v94 (ix2 k 0)
/-- The context's rows of the head's first matrix, transposed. -/
def arrS (o k : Fin 32) : EReal := V c main_v91 (ix2 o k)
/-- The second convolution's weights by tap and channel. -/
def arrT (o : Fin 9) (k : Fin 32) : EReal := V c main_v89 (ix2 o k)

/-- The feature at channel `k` of the pixel `(r, s)`: the product of the 27 shifted images, the bias, the rectifier. -/
def featK (k : Fin 32) (r s : Fin 512) : EReal :=
  max (∑ m : Fin 27, arrW V c k m * arrX V c m r s + arrB V c k) 0

/-- The first result's entry: the feature's product with the context's rows of the head's first matrix. -/
def gVal (o : Fin 32) (r s : Fin 512) : EReal := ∑ k : Fin 32, arrS V c o k * featK V c k r s

/-- The second result's entry: the feature's product with one tap of the second convolution. -/
def tVal (o : Fin 9) (r s : Fin 512) : EReal := ∑ k : Fin 32, arrT V c o k * featK V c k r s

/-- The first result: the feature's products with the context's rows of the head's first matrix. -/
theorem gA : (dat0 V c).arrAt 5 cfg0.N = fun i : S32x512x512.Idx => gVal V c (i 0) (i 1) (i 2) := by
  refine (dat0 V c).arrAt_eq_of_covers 5 _ (by decide +kernel) fun t hf y => ?_
  blk_simp
  rw [after0_5]
  unfold out0_5
  frame_out
  idx_vars y
  unfold_payloads
  pointwise
  have e : ((View.whole main_v95_0).slice (win0_5.rect t)).emb (ix3 y0 y1 y2) = ix3 y0 (rowA t y1) y2 := by
    funext a
    apply Fin.ext
    blk_simp [idxA5]
    match a with
    | 0 => simp
    | 1 => simp [rowA]
    | 2 => simp
  rw [e]
  simp only [iblkA0, iblkA1, iblkA2, iblkA3]
  rfl

/-- The second result: the feature's products with each tap of the second convolution. -/
theorem tA : (dat0 V c).arrAt 6 cfg0.N = fun i : S9x512x512.Idx => tVal V c (i 0) (i 1) (i 2) := by
  refine (dat0 V c).arrAt_eq_of_covers 6 _ (by decide +kernel) fun t hf y => ?_
  blk_simp
  rw [after0_6]
  unfold out0_6
  frame_out
  idx_vars y
  unfold_payloads
  pointwise
  have e : ((View.whole main_v95_1).slice (win0_6.rect t)).emb (ix3 y0 y1 y2) = ix3 y0 (rowA t y1) y2 := by
    funext a
    apply Fin.ext
    blk_simp [idxA6]
    match a with
    | 0 => simp
    | 1 => simp [rowA]
    | 2 => simp
  rw [e]
  simp only [iblkA0, iblkA1, iblkA2, iblkA4]
  rfl

end Cert.KernelIdeal.Body
end
-- ==== Proof.Value.Spec.lean ====
module
public import Idealize.ShloMosaic.Lib.Pointwise
@[expose] public section
noncomputable section

/-! # What both programs compute, stated over plain functions

A pixel of the low-resolution image is `(r, s)`, a pixel of the high-resolution image `(j, l)`. -/

namespace Cert.Spec
open Idealize.ShloMosaic

/-- An image read through a border of one zero: the tap `(ky, kx)` of a 3 × 3 window at `(r, s)`. -/
def tap (u : Fin 512 → Fin 512 → EReal) (ky kx : ℕ) (r s : Fin 512) : EReal :=
  if h : (1 ≤ r.val + ky ∧ r.val + ky - 1 < 512) ∧ 1 ≤ s.val + kx ∧ s.val + kx - 1 < 512 then
    u ⟨r.val + ky - 1, h.1.2⟩ ⟨s.val + kx - 1, h.2.2⟩
  else 0

/-- The first convolution's feature: 27 products, the bias, the rectifier. -/
def feat (X : Fin 3 → Fin 512 → Fin 512 → EReal) (W : Fin 32 → Fin 3 → Fin 3 → Fin 3 → EReal) (b : Fin 32 → EReal)
    (o : Fin 32) (r s : Fin 512) : EReal :=
  max ((∑ ky : Fin 3, ∑ kx : Fin 3, ∑ c : Fin 3, W o c ky kx * tap (X c) ky.val kx.val r s) + b o) 0

/-- The second convolution of the features `f`. -/
def conv (f : Fin 32 → Fin 512 → Fin 512 → EReal) (W : Fin 32 → Fin 3 → Fin 3 → EReal) (b : EReal) (r s : Fin 512) : EReal :=
  (∑ ky : Fin 3, ∑ kx : Fin 3, ∑ c : Fin 32, W c ky kx * tap (f c) ky.val kx.val r s) + b

/-- The logistic function of an extended real is a real number. -/
def sig (x : EReal) : ℝ := (Ideal.logistic x).toReal

/-- The logistic value as a real number. -/
theorem coe_sig (x : EReal) : ((sig x : ℝ) : EReal) = Ideal.logistic x := by
  unfold sig
  induction x using EReal.rec with
  | bot => simp
  | top => simp
  | coe r => rw [Ideal.logistic_coe]; rfl

/-- A finite sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The fourfold bilinear resize -/

/-- The row of the low-resolution image a high-resolution row lies in. -/
def quo (j : Fin 2048) : Fin 512 := ⟨j.val / 4, by omega⟩
/-- The row before, the first row its own. -/
def prv (q : Fin 512) : Fin 512 := ⟨q.val - 1, by omega⟩
/-- The row after, the last row its own. -/
def nxt (q : Fin 512) : Fin 512 := ⟨min (q.val + 1) 511, by omega⟩
/-- The weight of the row before. -/
def wa (j : Fin 2048) : ℝ := if j.val % 4 = 0 then 3 / 8 else if j.val % 4 = 1 then 1 / 8 else 0
/-- The weight of the row itself. -/
def wb (j : Fin 2048) : ℝ := if j.val % 4 = 0 ∨ j.val % 4 = 3 then 5 / 8 else 7 / 8
/-- The weight of the row after. -/
def wc (j : Fin 2048) : ℝ := if j.val % 4 = 2 then 1 / 8 else if j.val % 4 = 3 then 3 / 8 else 0

/-- One axis of the resize. -/
def mix (f : Fin 512 → ℝ) (j : Fin 2048) : ℝ := wa j * f (prv (quo j)) + wb j * f (quo j) + wc j * f (nxt (quo j))

/-- Both axes: rows first, then lanes. -/
def up (p : Fin 512 → Fin 512 → ℝ) (j l : Fin 2048) : ℝ := mix (fun s => mix (fun r => p r s) j) l

/-! ## The mask and the running count -/

/-- A resized prediction strictly between the two thresholds. -/
def open01 (x : EReal) : Prop := Ideal.ofBits FTy.f32 1008981770#32 < x ∧ x < Ideal.ofBits FTy.f32 1065185444#32

/-- Some pixel of the 15 × 15 square around `(j, l)`, inside the image, is between the thresholds. -/
def near (p : Fin 512 → Fin 512 → ℝ) (j l : Fin 2048) : Prop :=
  ∃ d e : Fin 15, ∃ h : (7 ≤ j.val + d.val ∧ j.val + d.val - 7 < 2048) ∧ 7 ≤ l.val + e.val ∧ l.val + e.val - 7 < 2048,
    open01 (up p ⟨j.val + d.val - 7, h.1.2⟩ ⟨l.val + e.val - 7, h.2.2⟩)

open Classical in
/-- The dilated mask along the flattened image, as a number. -/
def flag (p : Fin 512 → Fin 512 → ℝ) (i : ℕ) : ℕ :=
  if near p ⟨i / 2048 % 2048, Nat.mod_lt _ (by norm_num)⟩ ⟨i % 2048, Nat.mod_lt _ (by norm_num)⟩ then 1 else 0

/-- How many pixels up to and including the flattened position `i` are in the dilated mask. -/
def cnt (p : Fin 512 → Fin 512 → ℝ) (i : ℕ) : ℕ := ∑ k ∈ Finset.range (i + 1), flag p k

/-! ## The head -/

/-- The head: four image channels and 32 features through a hidden layer of 32. -/
def head (W1 : Fin 32 → Fin 4 → EReal) (W2 : Fin 32 → Fin 32 → EReal) (b1 w2 : Fin 32 → EReal) (b2 : EReal)
    (x : Fin 4 → EReal) (f : Fin 32 → EReal) : EReal :=
  Ideal.logistic ((∑ o : Fin 32, w2 o * max ((∑ c : Fin 4, W1 o c * x c) + (∑ k : Fin 32, W2 o k * f k) + b1 o) 0) + b2)

/-- The four image channels of a pixel: three colours and the prediction scaled to `[-1, 1]`. -/
def chan (H : Fin 3 → EReal) (u : EReal) (c : Fin 4) : EReal :=
  if h : c.val < 3 then H ⟨c.val, h⟩ else (u - Ideal.ofBits FTy.f32 1056964608#32) * Ideal.ofBits FTy.f32 1073741824#32

open Classical in
/-- A result: the head at the first 262144 pixels of the dilated mask, the resized prediction elsewhere. -/
def out (p : Fin 512 → Fin 512 → ℝ) (hd : Fin 2048 → Fin 2048 → EReal) (j l : Fin 2048) : EReal :=
  if near p j l ∧ cnt p (j.val * 2048 + l.val) ≤ 262144 then hd j l else (up p j l : EReal)

end Cert.Spec
end
-- ==== Proof.Value.CallP.lean ====
/- The second call's result, read at an index: the prediction, from the nine tap images. -/
module
public import proofs.«01_k».proof.Proof.KernelIdeal.Frame
public import proofs.«01_k».proof.Proof.Value.Spec
public import Idealize.ShloMosaic.Lib.Pointwise
public import Idealize.ShloMosaic.Lib.Tactic
public import Idealize.ShloMosaic.Lib.Tactic.CleanTypes
public import Idealize.ShloMosaic.Lib.Pipeline.ValueKit
@[expose] public section
set_option maxRecDepth 16384
noncomputable section
namespace Cert.KernelIdeal.Body
open Idealize.ShloMosaic Idealize.ShloMosaic.TcCoe Idealize.SL.Sem Cert.KernelIdeal Cert.Spec
open Idealize.ShloMosaic.Pipeline (Dat)

/-! ## The nine taps, as the call reads them -/

section Taps
variable (u : Fin 512 → Fin 512 → EReal) (r s : Fin 512)

/-- The upper left tap, in two nested tests. -/
theorem tap00 : (if h : s.val < 1 then 0 else if h' : r.val < 1 then 0 else u ⟨r.val - 1, by omega⟩ ⟨s.val - 1, by omega⟩) = tap u 0 0 r s := by
  unfold tap
  split_ifs <;> first | rfl | omega
/-- The upper tap. -/
theorem tap01 : (if h' : r.val < 1 then 0 else u ⟨r.val - 1, by omega⟩ s) = tap u 0 1 r s := by
  unfold tap
  split_ifs <;> first | rfl | omega
/-- The upper right tap. -/
theorem tap02 : (if h : s.val < 511 then (if h' : r.val < 1 then 0 else u ⟨r.val - 1, by omega⟩ ⟨1 + s.val, by omega⟩) else 0) = tap u 0 2 r s := by
  unfold tap
  split_ifs <;> first | rfl | omega | exact congrArg₂ u (Fin.ext (by simp)) (Fin.ext (by simp; omega))
/-- The left tap. -/
theorem tap10 : (if h : s.val < 1 then 0 else u r ⟨s.val - 1, by omega⟩) = tap u 1 0 r s := by
  unfold tap
  split_ifs <;> first | rfl | omega
/-- The middle tap. -/
theorem tap11 : u r s = tap u 1 1 r s := by
  unfold tap
  split_ifs <;> first | rfl | omega
/-- The right tap. -/
theorem tap12 : (if h : s.val < 511 then u r ⟨1 + s.val, by omega⟩ else 0) = tap u 1 2 r s := by
  unfold tap
  split_ifs <;> first | rfl | omega | exact congrArg₂ u (Fin.ext (by simp)) (Fin.ext (by simp; omega))
/-- The lower left tap. -/
theorem tap20 : (if h : s.val < 1 then 0 else if h' : r.val < 511 then u ⟨1 + r.val, by omega⟩ ⟨s.val - 1, by omega⟩ else 0) = tap u 2 0 r s := by
  unfold tap
  split_ifs <;> first | rfl | omega | exact congrArg₂ u (Fin.ext (by simp; omega)) (Fin.ext (by simp))
/-- The lower tap. -/
theorem tap21 : (if h' : r.val < 511 then u ⟨1 + r.val, by omega⟩ s else 0) = tap u 2 1 r s := by
  unfold tap
  split_ifs <;> first | rfl | omega | exact congrArg₂ u (Fin.ext (by simp; omega)) (Fin.ext (by simp))
/-- The lower right tap. -/
theorem tap22 : (if h : s.val < 511 then (if h' : r.val < 511 then u ⟨1 + r.val, by omega⟩ ⟨1 + s.val, by omega⟩ else 0) else 0) = tap u 2 2 r s := by
  unfold tap
  split_ifs <;> first | rfl | omega | exact congrArg₂ u (Fin.ext (by simp; omega)) (Fin.ext (by simp; omega))
end Taps

variable (V : (c : Dev nD) → (b : Ref sig .tc) → Buf (Elt Ideal) ((c : Thread nD τ).loc b)) (c : Dev nD)

/-- The nine tap images and the bias, as the second call receives them. -/
def arrQ (m : Fin 9) (r s : Fin 512) : EReal := V c main_v95_1 (ix3 m r s)
/-- The second convolution's bias. -/
def arrBp : EReal := V c main_v96 (ix2 0 0)

/-- The block the window takes at a point. -/
theorem idxP0 : ∀ t : Fin cfg1.N, win1_0.index t = ![0, 0, 0] := (by decide +kernel : ∀ t : Fin grid1.N, win1_0.index t = ![0, 0, 0])
/-- The block the window takes at a point. -/
theorem idxP1 : ∀ t : Fin cfg1.N, win1_1.index t = ![0, 0] := (by decide +kernel : ∀ t : Fin grid1.N, win1_1.index t = ![0, 0])
/-- The block the window takes at a point. -/
theorem idxP2 : ∀ t : Fin cfg1.N, win1_2.index t = ![0, 0] := (by decide +kernel : ∀ t : Fin grid1.N, win1_2.index t = ![0, 0])

/-- The block of the nine tap images, the array itself. -/
theorem iblkQ (t : Fin cfg1.N) (m : Fin 9) (r s : Fin 512) : (iblk1 V c 0 t (ix3 m r s) : EReal) = arrQ V c m r s := by
  unfold arrQ
  blk_simp [iblk1]
  refine congrArg (V c main_v95_1) ?_
  funext a
  apply Fin.ext
  blk_simp [idxP0]
  match a with
  | 0 => simp
  | 1 => simp
  | 2 => simp

/-- The block of the bias, the array itself. -/
theorem iblkBp (t : Fin cfg1.N) : (iblk1 V c 1 t (ix2 0 0) : EReal) = arrBp V c := by
  unfold arrBp
  blk_simp [iblk1]
  refine congrArg (V c main_v96) ?_
  funext a
  apply Fin.ext
  blk_simp [idxP1]
  match a with
  | 0 => simp
  | 1 => simp

/-- The prediction at a pixel. -/
def predK (r s : Fin 512) : EReal :=
  Ideal.logistic (arrBp V c + tap (arrQ V c 0) 0 0 r s + tap (arrQ V c 1) 0 1 r s + tap (arrQ V c 2) 0 2 r s
    + tap (arrQ V c 3) 1 0 r s + tap (arrQ V c 4) 1 1 r s + tap (arrQ V c 5) 1 2 r s
    + tap (arrQ V c 6) 2 0 r s + tap (arrQ V c 7) 2 1 r s + tap (arrQ V c 8) 2 2 r s)

/-- Ten sums, term by term. -/
theorem add10 {a0 a1 a2 a3 a4 a5 a6 a7 a8 a9 b0 b1 b2 b3 b4 b5 b6 b7 b8 b9 : EReal} (h0 : a0 = b0) (h1 : a1 = b1) (h2 : a2 = b2) (h3 : a3 = b3)
    (h4 : a4 = b4) (h5 : a5 = b5) (h6 : a6 = b6) (h7 : a7 = b7) (h8 : a8 = b8) (h9 : a9 = b9) :
    a0 + a1 + a2 + a3 + a4 + a5 + a6 + a7 + a8 + a9 = b0 + b1 + b2 + b3 + b4 + b5 + b6 + b7 + b8 + b9 := by
  rw [h0, h1, h2, h3, h4, h5, h6, h7, h8, h9]

set_option maxHeartbeats 4000000 in
/-- The second call's result. -/
theorem pP : (dat1 V c).arrAt 2 cfg1.N = fun i : S512x512.Idx => predK V c (i 0) (i 1) := by
  refine (dat1 V c).arrAt_eq_of_covers 2 _ (by decide +kernel) fun t hf y => ?_
  blk_simp
  rw [after1_2]
  unfold out1_2
  frame_out
  idx_vars y
  have e : ((View.whole main_v97).slice (win1_2.rect t)).emb (ix2 y0 y1) = ix2 y0 y1 := by
    funext a
    apply Fin.ext
    blk_simp [idxP2]
    match a with
    | 0 => simp
    | 1 => simp
  rw [e]
  unfold_payloads
  pointwise
  simp only [BitVec.toInt_zero, Int.cast_zero, EReal.coe_zero, iblkQ, iblkBp]
  unfold predK
  refine congrArg Ideal.logistic (add10 rfl ?_ ?_ ?_ ?_ ?_ ?_ ?_ ?_ ?_)
  · exact tap00 (arrQ V c 0) y0 y1
  · exact tap01 (arrQ V c 1) y0 y1
  · exact tap02 (arrQ V c 2) y0 y1
  · exact tap10 (arrQ V c 3) y0 y1
  · exact tap11 (arrQ V c 4) y0 y1
  · exact tap12 (arrQ V c 5) y0 y1
  · exact tap20 (arrQ V c 6) y0 y1
  · exact tap21 (arrQ V c 7) y0 y1
  · exact tap22 (arrQ V c 8) y0 y1

end Cert.KernelIdeal.Body
end
-- ==== Proof.Value.Weights.lean ====
module
public import proofs.«01_k».proof.Proof.Value.Spec
@[expose] public section
noncomputable section
namespace Cert.Spec
open Idealize.ShloMosaic

/-- The resize's unnormalised weight: a hat around the sample point. -/
def hat (k : Fin 512) (j : Fin 2048) : ℝ := max 0 (1 - |((j.val : ℝ) + 1 / 2) * (1 / 4) - 1 / 2 - (k.val : ℝ)|)

/-- A position by quotient and remainder, in the reals. -/
theorem val_eq (j : Fin 2048) : (j.val : ℝ) = 4 * ((quo j).val : ℝ) + ((j.val % 4 : ℕ) : ℝ) := by
  have : j.val = 4 * (quo j).val + j.val % 4 := by simp only [quo]; omega
  exact_mod_cast this

/-- The four remainders. -/
theorem rem_cases (j : Fin 2048) : j.val % 4 = 0 ∨ j.val % 4 = 1 ∨ j.val % 4 = 2 ∨ j.val % 4 = 3 := by omega

/-- The hat is nonzero at three rows only. -/
theorem hat_eq (k : Fin 512) (j : Fin 2048) :
    hat k j = (if k.val + 1 = (quo j).val then wa j else 0) + (if k.val = (quo j).val then wb j else 0)
      + (if k.val = (quo j).val + 1 then wc j else 0) := by
  have hv := val_eq j
  have key : ∀ (d : ℤ), (k.val : ℤ) - (quo j).val = d → (k.val : ℝ) = (quo j).val + (d : ℝ) := by
    intro d hd
    have : (k.val : ℤ) = (quo j).val + d := by omega
    exact_mod_cast this
  unfold hat
  rw [hv]
  by_cases h1 : k.val + 1 = (quo j).val
  · have hk := key (-1) (by omega)
    rw [if_pos h1, if_neg (by omega), if_neg (by omega), hk]
    rcases rem_cases j with h | h | h | h <;> simp only [wa, h] <;> norm_num [abs_of_nonneg, abs_of_neg] <;> ring_nf <;>
      norm_num [abs_of_nonneg, abs_of_neg]
  · by_cases h2 : k.val = (quo j).val
    · have hk := key 0 (by omega)
      rw [if_neg h1, if_pos h2, if_neg (by omega), hk]
      rcases rem_cases j with h | h | h | h <;> simp only [wb, h] <;> norm_num [abs_of_nonneg, abs_of_neg] <;> ring_nf <;>
        norm_num [abs_of_nonneg, abs_of_neg]
    · by_cases h3 : k.val = (quo j).val + 1
      · have hk := key 1 (by omega)
        rw [if_neg h1, if_neg h2, if_pos h3, hk]
        rcases rem_cases j with h | h | h | h <;> simp only [wc, h] <;> norm_num [abs_of_nonneg, abs_of_neg] <;> ring_nf <;>
          norm_num [abs_of_nonneg, abs_of_neg]
      · rw [if_neg h1, if_neg h2, if_neg h3]
        have hr0 : (0 : ℝ) ≤ ((j.val % 4 : ℕ) : ℝ) := Nat.cast_nonneg _
        have hr3 : ((j.val % 4 : ℕ) : ℝ) ≤ 3 := by exact_mod_cast (by omega : j.val % 4 ≤ 3)
        rw [add_zero, add_zero]
        apply max_eq_left
        rcases lt_or_gt_of_ne h2 with hlt | hgt
        · have : (k.val : ℝ) + 2 ≤ (quo j).val := by exact_mod_cast (by omega : k.val + 2 ≤ (quo j).val)
          rw [abs_of_nonneg (by linarith)]
          linarith
        · have : ((quo j).val : ℝ) + 2 ≤ k.val := by exact_mod_cast (by omega : (quo j).val + 2 ≤ k.val)
          rw [abs_of_neg (by linarith)]
          linarith

/-- A sum against the hat: three terms, those outside the image absent. -/
theorem sum_hat (f : Fin 512 → ℝ) (j : Fin 2048) :
    ∑ k, hat k j * f k = (if 1 ≤ (quo j).val then wa j * f (prv (quo j)) else 0) + wb j * f (quo j)
      + (if (quo j).val + 1 < 512 then wc j * f (nxt (quo j)) else 0) := by
  simp only [hat_eq, add_mul, ite_mul, zero_mul, Finset.sum_add_distrib]
  congr 1
  · congr 1
    · split_ifs with h
      · rw [Finset.sum_eq_single (prv (quo j))]
        · rw [if_pos (by simp only [prv]; omega)]
        · intro b _ hb
          rw [if_neg]
          intro h'
          apply hb
          apply Fin.ext
          simp only [prv]
          omega
        · intro h'; exact absurd (Finset.mem_univ _) h'
      · apply Finset.sum_eq_zero
        intro x _
        rw [if_neg (by omega)]
    · rw [Finset.sum_eq_single (quo j)]
      · rw [if_pos rfl]
      · intro b _ hb
        rw [if_neg (fun h => hb (Fin.ext h))]
      · intro h'; exact absurd (Finset.mem_univ _) h'
  · split_ifs with h
    · rw [Finset.sum_eq_single (nxt (quo j))]
      · rw [if_pos (by simp only [nxt]; omega)]
      · intro b _ hb
        rw [if_neg]
        intro h'
        apply hb
        apply Fin.ext
        simp only [nxt]
        omega
      · intro h'; exact absurd (Finset.mem_univ _) h'
    · apply Finset.sum_eq_zero
      intro x _
      rw [if_neg (by have := x.isLt; omega)]

/-- The hat's total over the rows. -/
def tot (j : Fin 2048) : ℝ := ∑ k, hat k j

/-- The weights' sum by the neighbours that exist. -/
theorem tot_eq (j : Fin 2048) : tot j = (if 1 ≤ (quo j).val then wa j else 0) + wb j + (if (quo j).val + 1 < 512 then wc j else 0) := by
  have := sum_hat (fun _ => 1) j
  simp only [mul_one] at this
  exact this

/-- The weights' sum is at least one half. -/
theorem half_le_tot (j : Fin 2048) : 1 / 2 ≤ tot j := by
  rw [tot_eq]
  rcases rem_cases j with h | h | h | h <;> simp only [wa, wb, wc, h] <;> split_ifs <;> norm_num

/-- The normalised hat's product is the three-term mixture. -/
theorem sum_norm (f : Fin 512 → ℝ) (j : Fin 2048) : ∑ k, hat k j * (1 / tot j) * f k = mix f j := by
  have h0 : tot j ≠ 0 := by have := half_le_tot j; intro h; rw [h] at this; norm_num at this
  have e : ∑ k, hat k j * (1 / tot j) * f k = (∑ k, hat k j * f k) / tot j := by
    rw [Finset.sum_div]
    refine Finset.sum_congr rfl fun k _ => ?_
    ring
  rw [e, div_eq_iff h0, sum_hat, tot_eq]
  unfold mix
  by_cases h1 : 1 ≤ (quo j).val
  · by_cases h2 : (quo j).val + 1 < 512
    · rw [if_pos h1, if_pos h2, if_pos h1, if_pos h2]
      have : wa j + wb j + wc j = 1 := by
        rcases rem_cases j with h | h | h | h <;> simp only [wa, wb, wc, h] <;> norm_num
      rw [this, mul_one]
    · have hn : nxt (quo j) = quo j := by apply Fin.ext; simp only [nxt]; omega
      rw [if_pos h1, if_neg h2, if_pos h1, if_neg h2, hn]
      rcases rem_cases j with h | h | h | h <;> simp only [wa, wb, wc, h] <;> norm_num <;> ring
  · have hn : prv (quo j) = quo j := by apply Fin.ext; simp only [prv]; omega
    rw [if_neg h1, if_pos (by omega), if_neg h1, if_pos (by omega), hn]
    rcases rem_cases j with h | h | h | h <;> simp only [wa, wb, wc, h] <;> norm_num <;> ring

/-- The kernel's row weights: two rows by number, one of them possibly at the border. -/
theorem sum_pick (f : Fin 512 → ℝ) (j : Fin 2048) (x y : ℝ) (a b : Fin 512) :
    ∑ k, ((if k = a then x else 0) + (if k = b then y else 0)) * f k = x * f a + y * f b := by
  simp only [add_mul, ite_mul, zero_mul, Finset.sum_add_distrib, Finset.sum_ite_eq', Finset.mem_univ, if_true]

end Cert.Spec
end
-- ==== Proof.Value.BlkU.lean ====
module
public import proofs.«01_k».proof.Proof.Gen.KernelIdeal.Skeleton
public import Idealize.ShloMosaic.Lib.Pointwise
public import Idealize.ShloMosaic.Lib.Tactic
public import Idealize.ShloMosaic.Lib.Tactic.CleanTypes
public import proofs.«01_k».proof.Proof.Value.Weights
@[expose] public section
set_option maxRecDepth 16384
set_option maxHeartbeats 4000000
noncomputable section
namespace Cert.KernelIdeal.Body
open Idealize.ShloMosaic Idealize.SL.Sem Cert.KernelIdeal Cert.KernelIdeal.Gen Cert.Spec

/-! # The third call's block, read at an index: the resize -/

/-! ## Words -/

/-- The row word of a block, clipped to the image: its value at a row inside. -/
theorem clip_word (T : Fin 128) (a : Fin 30) (h : 7 ≤ 16 * T.val + a.val) (h' : 16 * T.val + a.val - 7 < 2048) :
    IntOp.minsi (2047#32) (IntOp.maxsi (0#32)
      (IntOp.addi (Scalar.subi (Scalar.muli (16#32) (BitVec.ofNat 32 T.val)) 7#32) (BitVec.ofNat 32 a.val)))
      = BitVec.ofNat 32 (16 * T.val + a.val - 7) := by
  revert h h'
  revert a
  revert T
  decide +kernel

/-- The row word lies in the image exactly at the rows inside. -/
theorem valid_word (T : Fin 128) (a : Fin 30) :
    IntOp.andi
      (IntOp.cmpi CmpIPredicate.sge
        (IntOp.addi (Scalar.subi (Scalar.muli (16#32) (BitVec.ofNat 32 T.val)) 7#32) (BitVec.ofNat 32 a.val)) 0#32)
      (IntOp.cmpi CmpIPredicate.slt
        (IntOp.addi (Scalar.subi (Scalar.muli (16#32) (BitVec.ofNat 32 T.val)) 7#32) (BitVec.ofNat 32 a.val)) 2048#32)
      = if 7 ≤ 16 * T.val + a.val ∧ 16 * T.val + a.val - 7 < 2048 then 1#1 else 0#1 := by
  revert a
  revert T
  decide +kernel

/-- A small number's word, read signed. -/
theorem toInt_small (n : Fin 2048) : (BitVec.ofNat 32 n.val).toInt = (n.val : ℤ) := by
  revert n
  decide +kernel

/-- The row before, clipped, as a word. -/
theorem clip_prv (q : Fin 512) :
    IntOp.minsi (511#32) (IntOp.maxsi (0#32) (BitVec.ofInt 32 ((q.val : ℤ) - 1))) = BitVec.ofNat 32 (prv q).val := by
  revert q
  decide +kernel

/-- The row itself needs no clamping. -/
theorem clip_self (q : Fin 512) :
    IntOp.minsi (511#32) (IntOp.maxsi (0#32) (BitVec.ofInt 32 (q.val : ℤ))) = BitVec.ofNat 32 q.val := by
  revert q
  decide +kernel

/-- The row before, clamped at the first. -/
theorem clip_prv_succ (q : Fin 512) :
    IntOp.minsi (511#32) (IntOp.maxsi (0#32) (IntOp.addi (BitVec.ofInt 32 ((q.val : ℤ) - 1)) 1#32)) = BitVec.ofNat 32 q.val := by
  revert q
  decide +kernel

/-- The row after, clamped at the last. -/
theorem clip_nxt (q : Fin 512) :
    IntOp.minsi (511#32) (IntOp.maxsi (0#32) (IntOp.addi (BitVec.ofInt 32 (q.val : ℤ)) 1#32)) = BitVec.ofNat 32 (nxt q).val := by
  revert q
  decide +kernel

/-- Two row words compare equal exactly if the rows are. -/
theorem cmpi_rows (k a : Fin 512) : IntOp.cmpi CmpIPredicate.eq (BitVec.ofNat 32 k.val) (BitVec.ofNat 32 a.val) = 1 ↔ k = a := by
  unfold IntOp.cmpi
  have h : (BitVec.ofNat 32 k.val == BitVec.ofNat 32 a.val) = decide (k = a) := by
    rw [Bool.eq_iff_iff, beq_iff_eq, decide_eq_true_iff]
    constructor
    · intro h
      have := congrArg BitVec.toNat h
      simp only [BitVec.toNat_ofNat] at this
      apply Fin.ext
      omega
    · rintro rfl; rfl
  simp only [h]
  by_cases e : k = a <;> simp [e]

/-- The lane's remainder word. -/
theorem lane_word (l : Fin 2048) : k2_pay12 (ix2 0 l) = BitVec.ofNat 32 (l.val % 4) := by
  unfold k2_pay12
  pointwise
  revert l
  decide +kernel

/-! ## Constants -/

/-- The constant one half. -/
theorem c_half : Ideal.ofBits FTy.f32 1056964608#32 = ((1 / 2 : ℝ) : EReal) := by
  simp [Ideal.ofBits, Ideal.ieee, -EReal.coe_mul]; norm_num
/-- The constant one quarter. -/
theorem c_quarter : Ideal.ofBits FTy.f32 1048576000#32 = ((1 / 4 : ℝ) : EReal) := by
  simp [Ideal.ofBits, Ideal.ieee, -EReal.coe_mul]; norm_num
/-- The constant three eighths. -/
theorem c_3_8 : Ideal.ofBits FTy.f32 1052770304#32 = ((3 / 8 : ℝ) : EReal) := by
  simp [Ideal.ofBits, Ideal.ieee, -EReal.coe_mul]; norm_num
/-- The constant one eighth. -/
theorem c_1_8 : Ideal.ofBits FTy.f32 1040187392#32 = ((1 / 8 : ℝ) : EReal) := by
  simp [Ideal.ofBits, Ideal.ieee, -EReal.coe_mul]; norm_num
/-- The constant five eighths. -/
theorem c_5_8 : Ideal.ofBits FTy.f32 1059061760#32 = ((5 / 8 : ℝ) : EReal) := by
  simp [Ideal.ofBits, Ideal.ieee, -EReal.coe_mul]; norm_num
/-- The constant seven eighths. -/
theorem c_7_8 : Ideal.ofBits FTy.f32 1063256064#32 = ((7 / 8 : ℝ) : EReal) := by
  simp [Ideal.ofBits, Ideal.ieee, -EReal.coe_mul]; norm_num
/-- The constant 262144. -/
theorem c_cap : Ideal.ofBits FTy.f32 1216348160#32 = ((262144 : ℝ) : EReal) := by
  simp [Ideal.ofBits, Ideal.ieee, -EReal.coe_mul]; norm_num

/-! ## The row weights -/

variable (i : grid2.Coords) (T : Fin 128) (hT : (i 0).val = T.val) (a : Fin 30) (j : Fin 2048) (hj : j.val + 7 = 16 * T.val + a.val)

include hT in
/-- The clamped row number of the block's row, as a word. -/
theorem row_word : k2_pay2 i (ix2 a 0)
    = IntOp.addi (Scalar.subi (Scalar.muli (16#32) (BitVec.ofNat 32 T.val)) 7#32) (BitVec.ofNat 32 a.val) := by
  unfold k2_pay2
  pointwise
  rw [hT]

/-- The sample point of a row, in rows of the low-resolution image. -/
def smp (j : Fin 2048) : ℝ := ((j.val : ℝ) + 1 / 2) * (1 / 4) - 1 / 2

include hT hj in
/-- The sampling point of a row. -/
theorem smp_at : (k2_pay3 (F := Ideal) i (ix2 a 0) : EReal) = ((smp j : ℝ) : EReal) := by
  unfold k2_pay3
  pointwise
  rw [row_word i T hT, clip_word T a (by omega) (by omega), show 16 * T.val + a.val - 7 = j.val by omega]
  show (((BitVec.ofNat 32 j.val).toInt : ℝ) + _ : EReal) * _ - _ = _
  rw [toInt_small, c_half, c_quarter]
  unfold smp
  push_cast
  rfl

/-- The row the sample point lies after. -/
def flo (j : Fin 2048) : ℤ := if j.val % 4 < 2 then ((quo j).val : ℤ) - 1 else ((quo j).val : ℤ)

/-- The sampling point by quotient and remainder of the row. -/
theorem smp_eq (j : Fin 2048) : smp j = ((quo j).val : ℝ) + (2 * ((j.val % 4 : ℕ) : ℝ) - 3) / 8 := by
  unfold smp
  rw [val_eq]
  ring

/-- The sampling point rounded down. -/
theorem floor_smp (j : Fin 2048) : ⌊smp j⌋ = flo j := by
  rw [Int.floor_eq_iff, smp_eq]
  unfold flo
  rcases rem_cases j with h | h | h | h <;> simp only [h] <;> norm_num <;> (try constructor) <;> linarith

include hT hj in
/-- The rounded sampling point, as a real. -/
theorem flo_at : (k2_pay4 (F := Ideal) i (ix2 a 0) : EReal) = (((flo j : ℤ) : ℝ) : EReal) := by
  unfold k2_pay4
  pointwise
  rw [smp_at i T hT a j hj]
  show (((⌊smp j⌋ : ℤ) : ℝ) : EReal) = _
  rw [floor_smp]

include hT hj in
/-- What the rounding took off. -/
theorem frac_at : (k2_pay5 (F := Ideal) i (ix2 a 0) : EReal) = ((smp j - (flo j : ℤ) : ℝ) : EReal) := by
  unfold k2_pay5
  pointwise
  rw [smp_at i T hT a j hj, flo_at i T hT a j hj]
  rfl

include hT hj in
/-- The rounded sampling point, as a word. -/
theorem floW_at : k2_pay6 (F := Ideal) i (ix2 a 0) = BitVec.ofInt 32 (flo j) := by
  unfold k2_pay6
  pointwise
  rw [flo_at i T hT a j hj]
  show Ideal.fptosi 32 _ = _
  unfold Ideal.fptosi
  rw [Ideal.toIntClamped_coe]
  have hq := (quo j).isLt
  have hb : -1 ≤ flo j ∧ flo j ≤ 511 := by unfold flo; split_ifs <;> omega
  congr 1
  simp only [Int.floor_intCast, Int.ceil_intCast, ite_self]
  rw [min_eq_right (by norm_num; omega), max_eq_right (by norm_num; omega)]

/-- The two rows a row mixes, and their weights. -/
def lowR (j : Fin 2048) : Fin 512 := if j.val % 4 < 2 then prv (quo j) else quo j
/-- The row after the sampling point, clamped. -/
def highR (j : Fin 2048) : Fin 512 := if j.val % 4 < 2 then quo j else nxt (quo j)

include hT hj in
/-- The weight of the row before the sampling point, spread over the columns. -/
theorem low_at (k : Fin 512) : (k2_pay7 (F := Ideal) i (ix2 a k) : EReal) = ((if k = lowR j then 1 - (smp j - (flo j : ℤ)) else 0 : ℝ) : EReal) := by
  unfold k2_pay7
  pointwise
  rw [floW_at i T hT a j hj, frac_at i T hT a j hj]
  have e : IntOp.minsi (511#32) (IntOp.maxsi (0#32) (BitVec.ofInt 32 (flo j))) = BitVec.ofNat 32 (lowR j).val := by
    unfold flo lowR
    split_ifs
    · exact clip_prv _
    · exact clip_self _
  rw [e]
  unfold Scalar.select
  by_cases h : k = lowR j
  · rw [if_pos ((cmpi_rows _ _).mpr h), if_pos h]; rfl
  · rw [if_neg (fun h' => h ((cmpi_rows _ _).mp h')), if_neg h]; rfl

include hT hj in
/-- The number of the row after the sampling point, as a word. -/
theorem high_at (k : Fin 512) : k2_pay8 (F := Ideal) i (ix2 a k) = BitVec.ofNat 32 (highR j).val := by
  unfold k2_pay8
  pointwise
  rw [floW_at i T hT a j hj]
  unfold flo highR
  split_ifs
  · exact clip_prv_succ _
  · exact clip_nxt _

/-! ## The resize of a block -/

variable (v : Vec Ideal S512x512 .f32) (p : Fin 512 → Fin 512 → ℝ) (hp : ∀ r s, (v (ix2 r s) : EReal) = ((p r s : ℝ) : EReal))

/-- The rows of a block, resized along the rows. -/
def up1 : FVec Ideal S30x512 .f32 :=
  k2_pay9 (k2_pay5 i) (iota Kind.tc S30x512 32 [1] iota_S30x512_d1_w32) (k2_pay7 i) (k2_pay8 (F := Ideal) i) v

/-- The lanes before and after. -/
def up1p : FVec Ideal S30x512 .f32 :=
  k2_pay10 (k2_pay5 i) (iota Kind.tc S30x512 32 [1] iota_S30x512_d1_w32) (k2_pay7 i) (k2_pay8 (F := Ideal) i) v
/-- The row resize moved by one lane to the right neighbour. -/
def up1n : FVec Ideal S30x512 .f32 :=
  k2_pay11 (k2_pay5 i) (iota Kind.tc S30x512 32 [1] iota_S30x512_d1_w32) (k2_pay7 i) (k2_pay8 (F := Ideal) i) v

include hT hj hp in
/-- The row resize at a lane. -/
theorem up1_at (k : Fin 512) : (up1 i v (ix2 a k) : EReal) = ((mix (fun r => p r k) j : ℝ) : EReal) := by
  unfold up1 k2_pay9
  pointwise
  have e : ∀ x : Fin 512, (k2_pay7 (F := Ideal) i (ix2 a x)
      + Scalar.select (IntOp.cmpi CmpIPredicate.eq (BitVec.ofNat 32 x.val) (k2_pay8 (F := Ideal) i (ix2 a x)))
        (k2_pay5 (F := Ideal) i (ix2 a 0)) 0 : EReal) * v (ix2 x k)
      = ((((if x = lowR j then 1 - (smp j - (flo j : ℤ)) else 0) + (if x = highR j then smp j - (flo j : ℤ) else 0)) * p x k : ℝ) : EReal) := by
    intro x
    rw [low_at i T hT a j hj, high_at i T hT a j hj, frac_at i T hT a j hj, hp, EReal.coe_mul, EReal.coe_add]
    congr 2
    unfold Scalar.select
    by_cases h : x = highR j
    · rw [if_pos ((cmpi_rows _ _).mpr h), if_pos h]
    · rw [if_neg (fun h' => h ((cmpi_rows _ _).mp h')), if_neg h]; rfl
  rw [Finset.sum_congr rfl fun x _ => e x, ← coe_sum, sum_pick (fun x => p x k) j]
  congr 1
  unfold mix
  rw [smp_eq]
  unfold flo lowR highR
  rcases rem_cases j with h | h | h | h <;> simp only [wa, wb, wc, h] <;> norm_num <;> ring

include hT hj hp in
/-- The row resize at the lane before. -/
theorem up1p_at (k : Fin 512) : (up1p i v (ix2 a k) : EReal) = ((mix (fun r => p r (prv k)) j : ℝ) : EReal) := by
  have h : up1p i v (ix2 a k) = up1 i v (ix2 a (prv k)) := by
    unfold up1p up1 k2_pay10
    pointwise
    by_cases h : k.val < 1
    · rw [dif_pos h]
      exact congrArg (fun z => k2_pay9 _ _ _ _ v (ix2 a z)) (Fin.ext (by simp only [prv]; omega))
    · rw [dif_neg h]
      rfl
  rw [h, up1_at i T hT a j hj v p hp]

include hT hj hp in
/-- The row resize at the lane after. -/
theorem up1n_at (k : Fin 512) : (up1n i v (ix2 a k) : EReal) = ((mix (fun r => p r (nxt k)) j : ℝ) : EReal) := by
  have h : up1n i v (ix2 a k) = up1 i v (ix2 a (nxt k)) := by
    unfold up1n up1 k2_pay11
    pointwise
    by_cases h : k.val < 511
    · rw [dif_pos h]
      exact congrArg (fun z => k2_pay9 _ _ _ _ v (ix2 a z)) (Fin.ext (by simp only [nxt]; omega))
    · rw [dif_neg h]
      exact congrArg (fun z => k2_pay9 _ _ _ _ v (ix2 a z)) (Fin.ext (by simp only [nxt]; omega))
  rw [h, up1_at i T hT a j hj v p hp]

/-- The block's rows, resized along both axes. -/
def up2 : FVec Ideal S30x2048 .f32 := k2_pay15 (up1 i v) (up1p i v) (up1n i v) k2_pay12 (k2_pay13 (F := Ideal)) k2_pay14 3#32

/-- Comparing a lane's remainder by four with a number. -/
theorem cmpi_rem (l : Fin 2048) (n : Fin 4) :
    (IntOp.cmpi CmpIPredicate.eq (BitVec.ofNat 32 (l.val % 4)) (BitVec.ofNat 32 n.val) = 1) = (l.val % 4 = n.val) := by
  have := cmpi_rows ⟨l.val % 4, by omega⟩ ⟨n.val, by omega⟩
  rw [eq_iff_iff]
  exact this.trans Fin.ext_iff

include hT hj hp in
/-- The resized prediction at a row of the block and a lane. -/
theorem up2_at (l : Fin 2048) : (up2 i v (ix2 a l) : EReal) = ((up p j l : ℝ) : EReal) := by
  unfold up2 k2_pay15 k2_pay13 k2_pay14
  pointwise
  rw [show (⟨l.val / 4, by omega⟩ : Fin 512) = quo l from rfl, up1_at i T hT a j hj v p hp, up1p_at i T hT a j hj v p hp,
    up1n_at i T hT a j hj v p hp, lane_word, c_3_8, c_1_8, c_5_8, c_7_8]
  unfold up
  have e0 := cmpi_rem l 0
  have e1 := cmpi_rem l 1
  have e2 := cmpi_rem l 2
  have e3 := cmpi_rem l 3
  simp only [Fin.val_zero, Fin.val_one, Fin.val_two, show ((3 : Fin 4).val) = 3 from rfl] at e0 e1 e2 e3
  have hor : ∀ x y : BitVec 1, (IntOp.ori x y = 1) = (x = 1 ∨ y = 1) := by decide
  unfold Scalar.select
  simp only [hor, e0, e1, e2, e3]
  have hm : mix (fun s => mix (fun r => p r s) j) l
      = mix (fun r => p r (prv (quo l))) j * wa l + mix (fun r => p r (quo l)) j * wb l + mix (fun r => p r (nxt (quo l))) j * wc l := by
    rw [mix]; ring
  rw [hm, EReal.coe_add, EReal.coe_add, EReal.coe_mul, EReal.coe_mul, EReal.coe_mul]
  unfold wa wb wc
  rcases rem_cases l with h | h | h | h <;> simp [h]

end Cert.KernelIdeal.Body
end
-- ==== Proof.Value.Count.lean ====
module
public import proofs.«01_k».proof.Proof.Value.Spec
@[expose] public section
noncomputable section
namespace Cert.Spec

/-- A sum over whole pieces of `m`. -/
theorem sum_pieces (f : ℕ → ℕ) (m n : ℕ) : ∑ i ∈ Finset.range (n * m), f i = ∑ x ∈ Finset.range n, ∑ y ∈ Finset.range m, f (x * m + y) := by
  induction n with
  | zero => simp
  | succ n ih => rw [Nat.succ_mul, Finset.sum_range_add, Finset.sum_range_succ, ih]

/-- A sum over the positions below `c`, taken over a longer range. -/
theorem sum_below (g : ℕ → ℕ) (n c : ℕ) (h : c ≤ n) : ∑ x : Fin n, (if x.val < c then g x.val else 0) = ∑ x ∈ Finset.range c, g x := by
  rw [Fin.sum_univ_eq_sum_range (fun x => if x < c then g x else 0) n]
  rw [← Finset.sum_filter]
  congr 1
  ext x
  simp only [Finset.mem_filter, Finset.mem_range]
  omega

/-- A running count within a row of 2048 split into 16 chunks of 128. -/
theorem row_count (f : ℕ → ℕ) (l : ℕ) (hl : l < 2048) :
    (∑ x : Fin 128, if x.val ≤ l % 128 then f (l / 128 * 128 + x.val) else 0)
      + (∑ x : Fin 16, if x.val < l / 128 then ∑ y : Fin 128, f (x.val * 128 + y.val) else 0)
      = ∑ i ∈ Finset.range (l + 1), f i := by
  have h1 : (∑ x : Fin 128, if x.val ≤ l % 128 then f (l / 128 * 128 + x.val) else 0)
      = ∑ x ∈ Finset.range (l % 128 + 1), f (l / 128 * 128 + x) := by
    rw [← sum_below (fun x => f (l / 128 * 128 + x)) 128 (l % 128 + 1) (by omega)]
    refine Finset.sum_congr rfl fun x _ => ?_
    simp only [Nat.lt_succ_iff]
  have h2 : (∑ x : Fin 16, if x.val < l / 128 then ∑ y : Fin 128, f (x.val * 128 + y.val) else 0)
      = ∑ i ∈ Finset.range (l / 128 * 128), f i := by
    rw [sum_pieces, ← sum_below (fun x => ∑ y ∈ Finset.range 128, f (x * 128 + y)) 16 (l / 128) (by omega)]
    refine Finset.sum_congr rfl fun x _ => ?_
    rw [Fin.sum_univ_eq_sum_range (fun y => f (x.val * 128 + y)) 128]
  have e : l + 1 = l / 128 * 128 + (l % 128 + 1) := by omega
  rw [h1, h2, e, Finset.sum_range_add f (l / 128 * 128) (l % 128 + 1), add_comm]

/-- The running count of a block of 16 rows: the rows before, then the row's own. -/
theorem block_count (f : ℕ → ℕ) (a l : ℕ) (ha : a < 16) :
    (∑ i ∈ Finset.range (l + 1), f (a * 2048 + i))
      + (∑ x : Fin 16, if x.val < a then ∑ y : Fin 2048, f (x.val * 2048 + y.val) else 0)
      = ∑ i ∈ Finset.range (a * 2048 + l + 1), f i := by
  have h2 : (∑ x : Fin 16, if x.val < a then ∑ y : Fin 2048, f (x.val * 2048 + y.val) else 0)
      = ∑ i ∈ Finset.range (a * 2048), f i := by
    rw [sum_pieces, ← sum_below (fun x => ∑ y ∈ Finset.range 2048, f (x * 2048 + y)) 16 a (by omega)]
    refine Finset.sum_congr rfl fun x _ => ?_
    rw [Fin.sum_univ_eq_sum_range (fun y => f (x.val * 2048 + y)) 2048]
  rw [h2, add_assoc (a * 2048), Finset.sum_range_add f (a * 2048) (l + 1), add_comm]

/-- A whole block's count. -/
theorem block_total (f : ℕ → ℕ) : ∑ x : Fin 16, ∑ y : Fin 2048, f (x.val * 2048 + y.val) = ∑ i ∈ Finset.range 32768, f i := by
  rw [show (32768 : ℕ) = 16 * 2048 from rfl, sum_pieces,
    Fin.sum_univ_eq_sum_range (fun x => ∑ y : Fin 2048, f (x * 2048 + y.val)) 16]
  refine Finset.sum_congr rfl fun x _ => ?_
  rw [Fin.sum_univ_eq_sum_range (fun y => f (x * 2048 + y)) 2048]

end Cert.Spec
end
-- ==== Proof.Value.BlkM.lean ====
module
public import proofs.«01_k».proof.Proof.Gen.KernelIdeal.Skeleton
public import Idealize.ShloMosaic.Lib.Pointwise
public import Idealize.ShloMosaic.Lib.Tactic
public import Idealize.ShloMosaic.Lib.Tactic.CleanTypes
public import proofs.«01_k».proof.Proof.Value.BlkU
public import proofs.«01_k».proof.Proof.Value.Count
@[expose] public section
set_option maxRecDepth 16384
set_option maxHeartbeats 4000000
noncomputable section
namespace Cert.KernelIdeal.Body
open Idealize.ShloMosaic Idealize.SL.Sem Cert.KernelIdeal Cert.KernelIdeal.Gen Cert.Spec

/-! # The third call's block, read at an index: the dilated mask and the count -/

open Classical in
/-- One where a property holds, zero elsewhere. -/
def ind (P : Prop) : EReal := if P then 1 else 0

/-- The larger of two indicators is the indicator of either. -/
theorem max_ind (P Q : Prop) : max (ind P) (ind Q) = ind (P ∨ Q) := by
  unfold ind
  by_cases p : P <;> by_cases q : Q <;> simp [p, q]

/-- Equivalent statements have one indicator. -/
theorem ind_congr {P Q : Prop} (h : P ↔ Q) : ind P = ind Q := by rw [propext h]

/-- The indicator of a true statement is one. -/
theorem ind_true {P : Prop} (h : P) : ind P = 1 := if_pos h
/-- The indicator of a false statement is zero. -/
theorem ind_false {P : Prop} (h : ¬ P) : ind P = 0 := if_neg h

/-- The greatest of fifteen indicators: the indicator of their union. -/
theorem chain15 (P : Fin 15 → Prop) :
    max (max (max (max (max (max (max (max (max (max (max (max (max (max (ind (P ⟨0, by decide⟩)) (ind (P ⟨1, by decide⟩)))
      (ind (P ⟨2, by decide⟩))) (ind (P ⟨3, by decide⟩))) (ind (P ⟨4, by decide⟩))) (ind (P ⟨5, by decide⟩)))
      (ind (P ⟨6, by decide⟩))) (ind (P ⟨7, by decide⟩))) (ind (P ⟨8, by decide⟩))) (ind (P ⟨9, by decide⟩)))
      (ind (P ⟨10, by decide⟩))) (ind (P ⟨11, by decide⟩))) (ind (P ⟨12, by decide⟩))) (ind (P ⟨13, by decide⟩)))
      (ind (P ⟨14, by decide⟩)) = ind (∃ d, P d) := by
  simp only [max_ind]
  apply ind_congr
  constructor
  · rintro h
    rcases h with ((((((((((((((h | h) | h) | h) | h) | h) | h) | h) | h) | h) | h) | h) | h) | h) | h) <;> exact ⟨_, h⟩
  · rintro ⟨d, h⟩
    obtain ⟨n, hn⟩ := d
    interval_cases n <;> simp only [h, true_or, or_true]

/-- A bit widened and read as a number. -/
theorem bit_num (b : BitVec 1) : (FloatOps.sitofp (F := Ideal) .f32 (BitVec.setWidth 32 b) : EReal) = ind (b = 1) := by
  show (((BitVec.setWidth 32 b).toInt : ℝ) : EReal) = _
  rcases (by revert b; decide : b = 0 ∨ b = 1) with rfl | rfl
  · rw [ind_false (by decide)]
    norm_num
  · rw [ind_true rfl, show (BitVec.setWidth 32 (1 : BitVec 1)).toInt = 1 by decide]
    norm_num

/-- The conjunction of two bits is set when both are. -/
theorem and_one (x y : BitVec 1) : (IntOp.andi x y = 1) ↔ (x = 1 ∧ y = 1) := by revert x y; decide
/-- The bit of a decided statement is set when the statement holds. -/
theorem ofBool_one (P : Prop) [Decidable P] : (BitVec.ofBool (decide P) = 1) ↔ P := by by_cases h : P <;> simp [h]

/-- The product of two indicators is the indicator of both. -/
theorem ind_mul (P Q : Prop) : ind P * ind Q = ind (P ∧ Q) := by
  unfold ind
  by_cases p : P <;> by_cases q : Q <;> simp [p, q]

/-- The row of the image a block's row is. -/
def rowOf (T : Fin 128) (a : Fin 16) : Fin 2048 := ⟨16 * T.val + a.val, by omega⟩

variable (i : grid2.Coords) (T : Fin 128) (hT : (i 0).val = T.val)
variable (v : Vec Ideal S512x512 .f32) (p : Fin 512 → Fin 512 → ℝ) (hp : ∀ r s, (v (ix2 r s) : EReal) = ((p r s : ℝ) : EReal))

/-- A row of a block's halo, seven rows early, is inside the image and its pixel is between the thresholds. -/
def hot (p : Fin 512 → Fin 512 → ℝ) (n : ℕ) (l : Fin 2048) : Prop :=
  ∃ h : 7 ≤ n ∧ n - 7 < 2048, open01 (up p ⟨n - 7, h.2⟩ l)

/-- The block's mask before the dilation. -/
def msk : FVec Ideal S30x2048 .f32 :=
  k2_pay16 (k2_pay2 i) (up1 i v) (up1p i v) (up1n i v) k2_pay12 (k2_pay13 (F := Ideal)) k2_pay14 3#32
/-- The first 16 rows of the extended mask. -/
def msk0 : FVec Ideal S16x2048 .f32 :=
  k2_pay17 (k2_pay2 i) (up1 i v) (up1p i v) (up1n i v) k2_pay12 (k2_pay13 (F := Ideal)) k2_pay14 3#32

include hT hp in
/-- The extended mask at a row of the block and a lane: whether the pixel there is hot. -/
theorem msk_at (a : Fin 30) (l : Fin 2048) : (msk i v (ix2 a l) : EReal) = ind (hot p (16 * T.val + a.val) l) := by
  unfold msk k2_pay16
  pointwise
  have e : ∀ x, k2_pay15 (up1 i v) (up1p i v) (up1n i v) k2_pay12 (k2_pay13 (F := Ideal)) k2_pay14 3#32 x = up2 i v x := fun _ => rfl
  rw [row_word i T hT, valid_word, bit_num, bit_num, ind_mul]
  apply ind_congr
  simp only [and_one, ofBool_one, e]
  unfold hot
  by_cases h : 7 ≤ 16 * T.val + a.val ∧ 16 * T.val + a.val - 7 < 2048
  · rw [up2_at i T hT a ⟨16 * T.val + a.val - 7, h.2⟩ (by show _ - 7 + 7 = _; omega) v p hp]
    simp only [h, and_self, if_true, exists_true_left]
    exact ⟨fun h => h.1, fun h => ⟨h, rfl⟩⟩
  · rw [if_neg h]
    constructor
    · rintro ⟨_, h'⟩
      exact absurd h' (by decide)
    · rintro ⟨h', _⟩
      exact absurd h' h

include hT hp in
/-- The first 16 rows of the extended mask, read at an index. -/
theorem msk0_at (a : Fin 16) (l : Fin 2048) : (msk0 i v (ix2 a l) : EReal) = ind (hot p (16 * T.val + (0 + a.val)) l) := by
  unfold msk0 k2_pay17
  pointwise
  exact msk_at i T hT v p hp ⟨a.val, by omega⟩ l

/-- The mask dilated along the rows, between borders of seven zeros. -/
def dilR : FVec Ideal S16x2062 .f32 := k2_pay18 (msk i v) (msk0 i v)

include hT hp in
/-- The mask dilated along the rows and padded along the lanes: whether some row of the window is hot. -/
theorem dilR_at (a : Fin 16) (l : Fin 2062) : (dilR i v (ix2 a l) : EReal)
    = ind (∃ h : 7 ≤ l.val ∧ l.val - 7 < 2048, ∃ d : Fin 15, hot p (16 * T.val + (d.val + a.val)) ⟨l.val - 7, h.2⟩) := by
  unfold dilR k2_pay18
  pointwise
  have z : Ideal.ofBits FTy.f32 0#32 = 0 := by simp [Ideal.ofBits, Ideal.ieee]
  by_cases h1 : l.val < 7
  · rw [ind_false (by rintro ⟨h, _⟩; omega)]
    simp only [h1, if_true, dif_pos]
  · by_cases h2 : l.val - 7 < 2048
    · have key : (∃ h : 7 ≤ l.val ∧ l.val - 7 < 2048, ∃ d : Fin 15, hot p (16 * T.val + (d.val + a.val)) ⟨l.val - 7, h.2⟩)
          ↔ ∃ d : Fin 15, hot p (16 * T.val + (d.val + a.val)) ⟨l.val - 7, h2⟩ :=
        ⟨fun ⟨_, h⟩ => h, fun h => ⟨⟨by omega, h2⟩, h⟩⟩
      rw [ind_congr key]
      simp only [h1, h2, if_false, if_true, dif_pos, dif_neg, not_false_eq_true, msk_at i T hT v p hp, msk0_at i T hT v p hp]
      exact chain15 fun d => hot p (16 * T.val + (d.val + a.val)) ⟨l.val - 7, h2⟩
    · rw [ind_false (by rintro ⟨h, _⟩; omega)]
      simp only [h1, h2, if_false, dif_neg, not_false_eq_true]

/-- The mask dilated along the lanes too, but for the last lane. -/
def dilL : FVec Ideal S16x2048 .f32 := k2_pay19 (msk i v) (msk0 i v)

include hT hp in
/-- The dilated mask at a pixel: whether a pixel near it is between the thresholds. -/
theorem dil_at (a : Fin 16) (l : Fin 2048) : (k2_pay20 (dilR i v) (dilL i v) (ix2 a l) : EReal) = ind (near p (rowOf T a) l) := by
  unfold dilL k2_pay20 k2_pay19
  pointwise
  have e : ∀ x, k2_pay18 (msk i v) (msk0 i v) x = dilR i v x := fun _ => rfl
  have e0 : ∀ h, dilR i v (ix2 a ⟨l.val, h⟩) = dilR i v (ix2 a ⟨0 + l.val, by omega⟩) := fun h => by
    congr 2
    exact Fin.ext (Nat.zero_add _).symm
  simp only [e]
  rw [e0]
  simp only [dilR_at i T hT v p hp]
  refine (chain15 fun x => ∃ h : 7 ≤ x.val + l.val ∧ x.val + l.val - 7 < 2048, ∃ d : Fin 15,
    hot p (16 * T.val + (d.val + a.val)) ⟨x.val + l.val - 7, h.2⟩).trans (ind_congr ?_)
  unfold near hot rowOf
  constructor
  · rintro ⟨x, h, d, h', o⟩
    refine ⟨d, x, ⟨⟨by show 7 ≤ 16 * T.val + a.val + d.val; omega, by show 16 * T.val + a.val + d.val - 7 < _; omega⟩, by omega, by omega⟩, ?_⟩
    convert o using 4
    · show 16 * T.val + a.val + d.val - 7 = _; omega
    · show l.val + x.val - 7 = _; omega
  · rintro ⟨d, x, ⟨⟨h1, h2⟩, h3, h4⟩, o⟩
    have h1' : 7 ≤ 16 * T.val + a.val + d.val := h1
    have h2' : 16 * T.val + a.val + d.val - 7 < 2048 := h2
    refine ⟨x, ⟨by omega, by omega⟩, d, ⟨by omega, by omega⟩, ?_⟩
    convert o using 4
    · show _ = 16 * T.val + a.val + d.val - 7; omega
    · show _ = l.val + x.val - 7; omega

/-! ## The count -/

/-- A natural number in the extended reals. -/
def nn (n : ℕ) : EReal := ((n : ℝ) : EReal)

/-- Counts add as extended reals. -/
theorem nn_add (m n : ℕ) : nn m + nn n = nn (m + n) := by unfold nn; push_cast; rfl
/-- A sum of counts is the count's sum. -/
theorem nn_sum {ι : Type} (s : Finset ι) (f : ι → ℕ) : ∑ x ∈ s, nn (f x) = nn (∑ x ∈ s, f x) := by
  unfold nn
  rw [← coe_sum, Nat.cast_sum]
open Classical in
/-- A count times an indicator is the count or zero. -/
theorem nn_mul_ind (n : ℕ) (P : Prop) : nn n * ind P = nn (if P then n else 0) := by
  unfold ind nn
  by_cases h : P <;> simp [h]
open Classical in
/-- An indicator times a count is the count or zero. -/
theorem ind_mul_nn (n : ℕ) (P : Prop) : ind P * nn n = nn (if P then n else 0) := by
  rw [mul_comm, nn_mul_ind]

/-- The dilated mask along a block. -/
def bflag (p : Fin 512 → Fin 512 → ℝ) (T : Fin 128) (k : ℕ) : ℕ := flag p (T.val * 32768 + k)

/-- The block's flag at a flattened position, as an indicator. -/
theorem bflag_eq (T : Fin 128) (a : Fin 16) (l : Fin 2048) : ind (near p (rowOf T a) l) = nn (bflag p T (a.val * 2048 + l.val)) := by
  unfold bflag flag
  have e1 : (⟨(T.val * 32768 + (a.val * 2048 + l.val)) / 2048 % 2048, Nat.mod_lt _ (by norm_num)⟩ : Fin 2048) = rowOf T a := by
    apply Fin.ext
    show (T.val * 32768 + (a.val * 2048 + l.val)) / 2048 % 2048 = 16 * T.val + a.val
    omega
  have e2 : (⟨(T.val * 32768 + (a.val * 2048 + l.val)) % 2048, Nat.mod_lt _ (by norm_num)⟩ : Fin 2048) = l := by
    apply Fin.ext
    show (T.val * 32768 + (a.val * 2048 + l.val)) % 2048 = l.val
    omega
  rw [e1, e2]
  unfold ind nn
  by_cases h : near p (rowOf T a) l <;> simp [h]

include hT hp in
/-- The dilated mask at a pixel, as a count. -/
theorem dil_nn (a : Fin 16) (l : Fin 2048) :
    (k2_pay20 (dilR i v) (dilL i v) (ix2 a l) : EReal) = nn (bflag p T (a.val * 2048 + l.val)) := by
  rw [dil_at i T hT v p hp, bflag_eq]

include hT hp in
/-- The sum of one row of the dilated mask. -/
theorem rows_at (a : Fin 16) :
    (k2_pay21 (dilR i v) (dilL i v) (ix2 a 0) : EReal) = nn (∑ l : Fin 2048, bflag p T (a.val * 2048 + l.val)) := by
  unfold k2_pay21
  pointwise
  rw [← nn_sum]
  exact Finset.sum_congr rfl fun l _ => dil_nn i T hT v p hp a l

/-- The count a block adds to the one it is given. -/
theorem read23 (A : FVec Ideal S16x2062 .f32) (B : FVec Ideal S16x2048 .f32) (x : Ideal .f32) :
    (k2_pay23 A B x : EReal) = x + ∑ a : Fin 16, ∑ _ : Fin 1, k2_pay21 A B (ix2 a 0) := by
  unfold k2_pay23
  pointwise

include hT hp in
/-- What the block adds to the carried count. -/
theorem carry_at (x : EReal) :
    (k2_pay23 (dilR i v) (dilL i v) x : EReal) = x + nn (∑ k ∈ Finset.range 32768, bflag p T k) := by
  rw [read23, ← block_total, ← nn_sum]
  refine congrArg (fun z : EReal => x + z) (Finset.sum_congr rfl fun a _ => ?_)
  rw [Fin.sum_univ_one]
  exact rows_at i T hT v p hp a

/-- Comparing two lane numbers as words, not above. -/
theorem sle_word (x l : Fin 128) : (IntOp.cmpi CmpIPredicate.sle (BitVec.ofNat 32 x.val) (BitVec.ofNat 32 l.val) = 1) ↔ x.val ≤ l.val := by
  revert x l
  decide +kernel

/-- Comparing two chunk numbers as words, below. -/
theorem slt_word (x l : Fin 16) : (IntOp.cmpi CmpIPredicate.slt (BitVec.ofNat 32 x.val) (BitVec.ofNat 32 l.val) = 1) ↔ x.val < l.val := by
  revert x l
  decide +kernel

/-- Four sums, term by term. -/
theorem add4 {a b c d a' b' c' d' : ℕ} (h : a = a') (h' : b = b') (h'' : c = c') (h''' : d = d') : a + b + c + d = a' + b' + c' + d' := by
  rw [h, h', h'', h''']

/-- A count is within the cap as an extended real exactly when it is as a number. -/
theorem nn_cap {n m : ℕ} (h : n = m) : nn n ≤ ((262144 : ℝ) : EReal) ↔ m ≤ 262144 := by
  subst h
  unfold nn
  rw [EReal.coe_le_coe_iff]
  exact_mod_cast Iff.rfl

include hT hp in
/-- The selection at a pixel: in the dilated mask and among the first 262144. -/
theorem sel_at (a : Fin 16) (l : Fin 2048) :
    (k2_pay22 (dilR i v) (dilL i v) (nn (∑ k ∈ Finset.range (T.val * 32768), flag p k)) (ix2 a l) = 1)
      ↔ near p (rowOf T a) l ∧ cnt p ((rowOf T a).val * 2048 + l.val) ≤ 262144 := by
  unfold k2_pay22
  pointwise
  rw [and_one, ofBool_one, ofBool_one]
  have hs : ∀ x : Fin 128, (IntOp.cmpi CmpIPredicate.sle (BitVec.ofNat 32 x.val) (BitVec.ofNat 32 (l.val % 128)) = 1) ↔ x.val ≤ l.val % 128 :=
    fun x => sle_word x ⟨l.val % 128, by omega⟩
  have ht : ∀ x : Fin 16, (IntOp.cmpi CmpIPredicate.slt (BitVec.ofNat 32 x.val) (BitVec.ofNat 32 (l.val / 128)) = 1) ↔ x.val < l.val / 128 :=
    fun x => slt_word x ⟨l.val / 128, by omega⟩
  simp only [bit_num, dil_nn i T hT v p hp, rows_at i T hT v p hp, hs, ht, slt_word, nn_sum, nn_mul_ind, ind_mul_nn, nn_add]
  refine and_congr ?_ ?_
  · rw [← bflag_eq]
    unfold ind
    by_cases h : near p (rowOf T a) l <;> simp [h]
  · rw [c_cap]
    refine nn_cap ?_
    have e1 := row_count (fun k => bflag p T (a.val * 2048 + k)) l.val l.isLt
    have e2 := block_count (bflag p T) a.val l.val a.isLt
    have e3 : cnt p ((rowOf T a).val * 2048 + l.val)
        = (∑ k ∈ Finset.range (T.val * 32768), flag p k) + ∑ k ∈ Finset.range (a.val * 2048 + l.val + 1), bflag p T k := by
      unfold cnt bflag
      rw [← Finset.sum_range_add, show T.val * 32768 + (a.val * 2048 + l.val + 1) = (rowOf T a).val * 2048 + l.val + 1 by
        show _ = (16 * T.val + a.val) * 2048 + l.val + 1
        omega]
    rw [e3, ← e2, ← e1, add_comm (∑ k ∈ Finset.range (T.val * 32768), flag p k)]
    refine add4 ?_ ?_ ?_ rfl
    · refine Finset.sum_congr rfl fun x _ => ?_
      rw [show (a.val * 16 + l.val / 128) % 16 * 128 + x.val = l.val / 128 * 128 + x.val by omega]
      by_cases h : x.val ≤ l.val % 128
      · rw [if_pos h, if_pos h]
      · rw [if_neg h, if_neg h]
    · refine Finset.sum_congr rfl fun x _ => ?_
      by_cases h : x.val < l.val / 128
      · rw [if_pos h, if_pos h]
      · rw [if_neg h, if_neg h]
    · refine Finset.sum_congr rfl fun x _ => ?_
      by_cases h : x.val < a.val
      · rw [if_pos h, if_pos h]
      · rw [if_neg h, if_neg h]

end Cert.KernelIdeal.Body
end
-- ==== Proof.Value.BlkO.lean ====
module
public import proofs.«01_k».proof.Proof.Gen.KernelIdeal.Skeleton
public import Idealize.ShloMosaic.Lib.Pointwise
public import Idealize.ShloMosaic.Lib.Tactic
public import Idealize.ShloMosaic.Lib.Tactic.CleanTypes
public import proofs.«01_k».proof.Proof.Value.BlkU
@[expose] public section
set_option maxRecDepth 16384
set_option maxHeartbeats 4000000
noncomputable section
namespace Cert.KernelIdeal.Body
open Idealize.ShloMosaic Idealize.SL.Sem Cert.KernelIdeal Cert.KernelIdeal.Gen Cert.Spec

/-! # The third call's block, read at an index: the head -/

/-- Part 0 of a block's features, each lane kept four lanes wide. -/
theorem wide0 (q : FVec Ideal S32x4x512 .f32) (o : Fin 32) (l : Fin 2048) :
    (shapeCast S32x2048 (broadcastTo S32x512x4 (shapeCast S32x512x1 (shapeCast S32x512 (extractStridedSlice S32x1x512 ![0, 0, 0] q slices_S32x4x512_o0_0_0_S32x1x512)
      shapeCasts_S32x1x512_S32x512) shapeCasts_S32x512_S32x512x1) broadcasts_S32x512x1_S32x512x4) shapeCasts_S32x512x4_S32x2048 (ix2 o l) : EReal)
      = q (ix3 o 0 (quo l)) := by
  pointwise
  first | done | rfl

/-- Part 1 of a block's features, each lane kept four lanes wide. -/
theorem wide1 (q : FVec Ideal S32x4x512 .f32) (o : Fin 32) (l : Fin 2048) :
    (shapeCast S32x2048 (broadcastTo S32x512x4 (shapeCast S32x512x1 (shapeCast S32x512 (extractStridedSlice S32x1x512 ![0, 1, 0] q slices_S32x4x512_o0_1_0_S32x1x512)
      shapeCasts_S32x1x512_S32x512) shapeCasts_S32x512_S32x512x1) broadcasts_S32x512x1_S32x512x4) shapeCasts_S32x512x4_S32x2048 (ix2 o l) : EReal)
      = q (ix3 o 1 (quo l)) := by
  pointwise
  first | done | rfl

/-- Part 2 of a block's features, each lane kept four lanes wide. -/
theorem wide2 (q : FVec Ideal S32x4x512 .f32) (o : Fin 32) (l : Fin 2048) :
    (shapeCast S32x2048 (broadcastTo S32x512x4 (shapeCast S32x512x1 (shapeCast S32x512 (extractStridedSlice S32x1x512 ![0, 2, 0] q slices_S32x4x512_o0_2_0_S32x1x512)
      shapeCasts_S32x1x512_S32x512) shapeCasts_S32x512_S32x512x1) broadcasts_S32x512x1_S32x512x4) shapeCasts_S32x512x4_S32x2048 (ix2 o l) : EReal)
      = q (ix3 o 2 (quo l)) := by
  pointwise
  first | done | rfl

/-- Part 3 of a block's features, each lane kept four lanes wide. -/
theorem wide3 (q : FVec Ideal S32x4x512 .f32) (o : Fin 32) (l : Fin 2048) :
    (shapeCast S32x2048 (broadcastTo S32x512x4 (shapeCast S32x512x1 (shapeCast S32x512 (extractStridedSlice S32x1x512 ![0, 3, 0] q slices_S32x4x512_o0_3_0_S32x1x512)
      shapeCasts_S32x1x512_S32x512) shapeCasts_S32x512_S32x512x1) broadcasts_S32x512x1_S32x512x4) shapeCasts_S32x512x4_S32x2048 (ix2 o l) : EReal)
      = q (ix3 o 3 (quo l)) := by
  pointwise
  first | done | rfl

/-- Sixteen pieces side by side, read at a lane. -/
theorem cat16 (A B C D : FVec Ideal S32x2048 .f32) (o : Fin 32) (a : Fin 16) (l : Fin 2048) (h : a.val * 2048 + l.val < 32768) :
    (concatenate S32x32768 1 [⟨S32x2048, A⟩, ⟨S32x2048, A⟩, ⟨S32x2048, A⟩, ⟨S32x2048, A⟩, ⟨S32x2048, B⟩, ⟨S32x2048, B⟩, ⟨S32x2048, B⟩, ⟨S32x2048, B⟩, ⟨S32x2048, C⟩, ⟨S32x2048, C⟩, ⟨S32x2048, C⟩, ⟨S32x2048, C⟩, ⟨S32x2048, D⟩, ⟨S32x2048, D⟩, ⟨S32x2048, D⟩, ⟨S32x2048, D⟩] (by exact concatenates_S32x2048_S32x2048_S32x2048_S32x2048_S32x2048_S32x2048_S32x2048_S32x2048_S32x2048_S32x2048_S32x2048_S32x2048_S32x2048_S32x2048_S32x2048_S32x2048_S32x32768_d1) (ix2 o ⟨a.val * 2048 + l.val, h⟩) : EReal)
      = if a.val < 4 then A (ix2 o l) else if a.val < 8 then B (ix2 o l) else if a.val < 12 then C (ix2 o l) else D (ix2 o l) := by
  refine (concatenate_ofFn_apply (t := S32x32768) (s₁ := S32x2048) 1 ![A, A, A, A, B, B, B, B, C, C, C, C, D, D, D, D] _ rfl 2048 rfl
    (ix2 o ⟨a.val * 2048 + l.val, h⟩) a ?_ (ix2 o l) ?_ ?_).trans ?_
  · show (a.val * 2048 + l.val) / 2048 = a.val
    omega
  · show l.val = (a.val * 2048 + l.val) % 2048
    omega
  · intro b hb
    match b with
    | ⟨0, _⟩ => rfl
    | ⟨1, _⟩ => exact absurd rfl hb
  · fin_cases a <;> rfl

/-- The output block at an index, over any of its parts. -/
theorem read1 (c : IVec S16x2048 1) (u : FVec Ideal S16x2048 .f32) (H : FVec Ideal S32x32768 .f32) (z : Ideal .f32) (w : Vec Ideal S1x32 .f32)
    (b : Vec Ideal S1x1 .f32) (a : Fin 16) (l : Fin 2048) :
    (k2_pay1 c u H z w b (ix2 a l) : EReal) = Scalar.select (c (ix2 a l))
      (Ideal.logistic (∑ x : Fin 32, w (ix2 0 x) * max (H (ix2 x ⟨a.val * 2048 + l.val, by omega⟩)) z + b (ix2 0 0))) (u (ix2 a l)) := by
  unfold k2_pay1
  pointwise

/-- Three sums, term by term. -/
theorem add3 {a b c a' b' c' : EReal} (h : a = a') (h' : b = b') (h'' : c = c') : a + b + c = a' + b' + c' := by rw [h, h', h'']

/-- The constant two. -/
theorem c_two : Ideal.ofBits FTy.f32 1073741824#32 = ((2 : ℝ) : EReal) := by
  simp [Ideal.ofBits, Ideal.ieee, -EReal.coe_mul]; norm_num

/-- The hidden layer before the rectifier, at a pixel of the block. -/
theorem read25 (u : FVec Ideal S30x2048 .f32) (x : Vec Ideal S3x16x2048 .f32) (g : Vec Ideal S32x1x4x512 .f32) (w : Vec Ideal S32x4 .f32)
    (b : Vec Ideal S32x1 .f32) (o : Fin 32) (a : Fin 16) (l : Fin 2048) (h : a.val * 2048 + l.val < 32768) :
    (k2_pay25 u x g w b (ix2 o ⟨a.val * 2048 + l.val, h⟩) : EReal)
      = (∑ c : Fin 4, w (ix2 o c) * chan (fun c => x (ix3 c a l)) (u (ix2 ⟨7 + a.val, by omega⟩ l)) c)
        + g (ix4 o 0 ⟨a.val / 4, by omega⟩ (quo l)) + b (ix2 o 0) := by
  unfold k2_pay25
  refine add3 ?_ ?_ ?_
  · pointwise
    rw [Fin.sum_univ_castSucc (n := 3), Fin.sum_univ_one]
    refine congrArg₂ (α := EReal) (β := EReal) (· + ·) (Finset.sum_congr rfl fun c _ => ?_) ?_
    · unfold chan
      rw [dif_pos (show c.castSucc.val < 3 from c.isLt)]
      rfl
    · unfold chan k2_pay24
      rw [dif_neg (show ¬ (Fin.last 3).val < 3 by decide)]
      pointwise
      rfl
  · refine (cat16 _ _ _ _ o a l h).trans ?_
    rw [wide0, wide1, wide2, wide3]
    pointwise
    split_ifs
    · exact congrArg (fun z => g (ix4 o 0 z (quo l))) (Fin.ext (show 0 = a.val / 4 by omega))
    · exact congrArg (fun z => g (ix4 o 0 z (quo l))) (Fin.ext (show 1 = a.val / 4 by omega))
    · exact congrArg (fun z => g (ix4 o 0 z (quo l))) (Fin.ext (show 2 = a.val / 4 by omega))
    · exact congrArg (fun z => g (ix4 o 0 z (quo l))) (Fin.ext (show 3 = a.val / 4 by omega))
  · pointwise

end Cert.KernelIdeal.Body
end
-- ==== Proof.Value.CallB.lean ====
/- The third call's result, read at an index: the head at the first 262144 pixels of the dilated mask, the resized prediction elsewhere. -/
module
public import proofs.«01_k».proof.Proof.KernelIdeal.Frame
public import proofs.«01_k».proof.Proof.Value.BlkM
public import proofs.«01_k».proof.Proof.Value.BlkO
public import Idealize.ShloMosaic.Lib.Pointwise
public import Idealize.ShloMosaic.Lib.Tactic
public import Idealize.ShloMosaic.Lib.Tactic.CleanTypes
public import Idealize.ShloMosaic.Lib.Pipeline.ValueKit
public import Idealize.ShloMosaic.Lib.Pipeline.ReadBack
@[expose] public section
set_option maxRecDepth 16384
set_option maxHeartbeats 2000000
noncomputable section
namespace Cert.KernelIdeal.Body
open Idealize.ShloMosaic Idealize.ShloMosaic.TcCoe Idealize.SL.Sem Cert.KernelIdeal Cert.KernelIdeal.Gen Cert.Spec
open Idealize.ShloMosaic.Pipeline (Dat)

variable (V : (c : Dev nD) → (b : Ref sig .tc) → Buf (Elt Ideal) ((c : Thread nD τ).loc b)) (c : Dev nD)

/-- The third call has 128 points. -/
theorem pointsB : cfg2.N = 128 := by decide +kernel

/-- The number of a point of the third call. -/
def numB (t : Fin cfg2.N) : Fin 128 := t.cast pointsB

/-- A point's coordinate is its number. -/
theorem coordsB : ∀ t : Fin cfg2.N, ((grid2.coords t) 0).val = (numB t).val :=
  (by decide +kernel : ∀ t : Fin grid2.N, ((grid2.coords t) 0).val = t.val)

/-- The block the window takes at a point. -/
theorem idxB0 : ∀ t : Fin cfg2.N, win2_0.index t = ![0, 0] := (by decide +kernel : ∀ t : Fin grid2.N, win2_0.index t = ![0, 0])
/-- The block the window takes at a point. -/
theorem idxB1 : ∀ t : Fin cfg2.N, win2_1.index t = ![0, t.val, 0] := (by decide +kernel : ∀ t : Fin grid2.N, win2_1.index t = ![0, t.val, 0])
/-- The block the window takes at a point. -/
theorem idxB2 : ∀ t : Fin cfg2.N, win2_2.index t = ![0, t.val, 0, 0] := (by decide +kernel : ∀ t : Fin grid2.N, win2_2.index t = ![0, t.val, 0, 0])
/-- The block the window takes at a point. -/
theorem idxB3 : ∀ t : Fin cfg2.N, win2_3.index t = ![0, 0] := (by decide +kernel : ∀ t : Fin grid2.N, win2_3.index t = ![0, 0])
/-- The block the window takes at a point. -/
theorem idxB4 : ∀ t : Fin cfg2.N, win2_4.index t = ![0, 0] := (by decide +kernel : ∀ t : Fin grid2.N, win2_4.index t = ![0, 0])
/-- The block the window takes at a point. -/
theorem idxB5 : ∀ t : Fin cfg2.N, win2_5.index t = ![0, 0] := (by decide +kernel : ∀ t : Fin grid2.N, win2_5.index t = ![0, 0])
/-- The block the window takes at a point. -/
theorem idxB6 : ∀ t : Fin cfg2.N, win2_6.index t = ![0, 0] := (by decide +kernel : ∀ t : Fin grid2.N, win2_6.index t = ![0, 0])
/-- The block the window takes at a point. -/
theorem idxB7 : ∀ t : Fin cfg2.N, win2_7.index t = ![t.val, 0] := (by decide +kernel : ∀ t : Fin grid2.N, win2_7.index t = ![t.val, 0])

/-- The prediction, the high-resolution image, the context's products, the head's weights and biases, as the third call receives them. -/
def arrP (r s : Fin 512) : EReal := V c main_v97 (ix2 r s)
/-- The fine image by colour. -/
def arrH (k : Fin 3) (j l : Fin 2048) : EReal := V c main_v1 (ix3 k j l)
/-- The context's products by hidden unit. -/
def arrG (o : Fin 32) (r s : Fin 512) : EReal := V c main_v98 (ix4 o ⟨r.val / 4, by omega⟩ ⟨r.val % 4, by omega⟩ s)
/-- The first four rows of the head's first matrix, transposed. -/
def arrW4 (o : Fin 32) (k : Fin 4) : EReal := V c main_v93 (ix2 o k)
/-- The hidden layer's bias. -/
def arrBs (o : Fin 32) : EReal := V c main_v99 (ix2 o 0)
/-- The head's second matrix. -/
def arrW2 (o : Fin 32) : EReal := V c main_v100 (ix2 0 o)
/-- The head's second bias. -/
def arrB2 : EReal := V c main_v101 (ix2 0 0)

/-- The block of a point, read as an entry of its array. -/
theorem iblkB0 (t : Fin cfg2.N) (r s : Fin 512) : (iblk2 V c 0 t (ix2 r s) : EReal) = arrP V c r s := by
  unfold arrP
  blk_simp [iblk2]
  refine congrArg (V c main_v97) ?_
  funext a
  apply Fin.ext
  blk_simp [idxB0]
  match a with
  | 0 => simp
  | 1 => simp

/-- The block of a point, read as an entry of its array. -/
theorem iblkB1 (t : Fin cfg2.N) (k : Fin 3) (a : Fin 16) (l : Fin 2048) :
    (iblk2 V c 1 t (ix3 k a l) : EReal) = arrH V c k (rowOf (numB t) a) l := by
  unfold arrH
  blk_simp [iblk2]
  refine congrArg (V c main_v1) ?_
  funext a
  apply Fin.ext
  blk_simp [idxB1]
  match a with
  | 0 => simp
  | 1 => simp [rowOf, numB]; omega
  | 2 => simp

/-- The block of a point, read as an entry of its array. -/
theorem iblkB2 (t : Fin cfg2.N) (o : Fin 32) (a : Fin 16) (s : Fin 512) :
    (iblk2 V c 2 t (ix4 o 0 ⟨a.val / 4, by omega⟩ s) : EReal) = arrG V c o (quo (rowOf (numB t) a)) s := by
  unfold arrG
  blk_simp [iblk2]
  refine congrArg (V c main_v98) ?_
  funext b
  apply Fin.ext
  blk_simp [idxB2]
  match b with
  | 0 => simp
  | 1 => simp [quo, rowOf, numB]; omega
  | 2 => simp [quo, rowOf, numB]; omega
  | 3 => simp

/-- The block of a point, read as an entry of its array. -/
theorem iblkB3 (t : Fin cfg2.N) (o : Fin 32) (k : Fin 4) : (iblk2 V c 3 t (ix2 o k) : EReal) = arrW4 V c o k := by
  unfold arrW4
  blk_simp [iblk2]
  refine congrArg (V c main_v93) ?_
  funext a
  apply Fin.ext
  blk_simp [idxB3]
  match a with
  | 0 => simp
  | 1 => simp

/-- The block of a point, read as an entry of its array. -/
theorem iblkB4 (t : Fin cfg2.N) (o : Fin 32) : (iblk2 V c 4 t (ix2 o 0) : EReal) = arrBs V c o := by
  unfold arrBs
  blk_simp [iblk2]
  refine congrArg (V c main_v99) ?_
  funext a
  apply Fin.ext
  blk_simp [idxB4]
  match a with
  | 0 => simp
  | 1 => simp

/-- The block of a point, read as an entry of its array. -/
theorem iblkB5 (t : Fin cfg2.N) (o : Fin 32) : (iblk2 V c 5 t (ix2 0 o) : EReal) = arrW2 V c o := by
  unfold arrW2
  blk_simp [iblk2]
  refine congrArg (V c main_v100) ?_
  funext a
  apply Fin.ext
  blk_simp [idxB5]
  match a with
  | 0 => simp
  | 1 => simp

/-- The block of a point, read as an entry of its array. -/
theorem iblkB6 (t : Fin cfg2.N) : (iblk2 V c 6 t (ix2 0 0) : EReal) = arrB2 V c := by
  unfold arrB2
  blk_simp [iblk2]
  refine congrArg (V c main_v101) ?_
  funext a
  apply Fin.ext
  blk_simp [idxB6]
  match a with
  | 0 => simp
  | 1 => simp

variable (p : Fin 512 → Fin 512 → ℝ) (hp : ∀ r s, arrP V c r s = ((p r s : ℝ) : EReal))

include hp in
/-- The prediction block, a real number at each entry. -/
theorem blkP (t : Fin cfg2.N) (r s : Fin 512) : (iblk2 V c 0 t (ix2 r s) : EReal) = ((p r s : ℝ) : EReal) :=
  (iblkB0 V c t r s).trans (hp r s)

/-- The first index of a one-entry array. -/
theorem first_unit (h : 0 < S1x1.numel) : Shape.Idx.first h = (ix2 0 0 : S1x1.Idx) := by
  funext a
  apply Fin.ext
  match a with
  | ⟨0, _⟩ => exact Nat.lt_one_iff.mp ((Shape.Idx.first h) 0).isLt
  | ⟨1, _⟩ => exact Nat.lt_one_iff.mp ((Shape.Idx.first h) 1).isLt

/-- The count before a point. -/
def before (p : Fin 512 → Fin 512 → ℝ) (t : ℕ) : EReal := nn (∑ k ∈ Finset.range (t * 32768), flag p k)

/-- Nothing is counted before the first block. -/
theorem before_zero : before p 0 = FloatOps.ofBits (F := Ideal) FTy.f32 0#32 := by
  unfold before nn
  show _ = Ideal.ofBits .f32 0#32
  simp [Ideal.ofBits, Ideal.ieee]

include hp in
/-- A point adds its block's count to the one it finds. -/
theorem stepB (t : Fin cfg2.N) :
    (k2_pay23 (dilR (grid2.coords t) (iblk2 V c 0 t)) (dilL (grid2.coords t) (iblk2 V c 0 t)) (before p t.val) : EReal) = before p (t.val + 1) := by
  rw [carry_at (grid2.coords t) (numB t) (coordsB t) (iblk2 V c 0 t) p (blkP V c p hp t)]
  unfold before
  rw [nn_add, Nat.succ_mul, Finset.sum_range_add]
  rfl

include hp in
/-- What a point leaves in the carried count. -/
theorem countB (n : ℕ) : ∀ (hn : n < cfg2.N), ((outsAt2 V c n hn).2 (ix2 0 0) : EReal) = before p (n + 1) := by
  induction n with
  | zero =>
    intro hn
    have e := stepB V c p hp ⟨0, hn⟩
    rw [show ((⟨0, hn⟩ : Fin cfg2.N).val) = 0 from rfl, before_zero] at e
    rw [show outsAt2 V c 0 hn = _ from outsAt2_A V c ⟨0, hn⟩ rfl]
    unfold sout2_A_0
    dsimp only
    frame_out
    exact e
  | succ n ih =>
    intro hn
    have hN : n + 1 < 128 := lt_of_lt_of_eq hn pointsB
    have e := stepB V c p hp ⟨n + 1, hn⟩
    rw [show ((⟨n + 1, hn⟩ : Fin cfg2.N).val) = n + 1 from rfl, ← ih (by omega)] at e
    rw [show outsAt2 V c (n + 1) hn = _ from outsAt2_B V c ⟨n + 1, hn⟩ (by show ¬ (n + 1) % 128 = 0; omega)]
    unfold sout2_B_0
    dsimp only
    frame_out
    rw [read_unread_whole, first_unit]
    exact e

/-- The head's value at a pixel. -/
def hdK (p : Fin 512 → Fin 512 → ℝ) (j l : Fin 2048) : EReal :=
  Ideal.logistic ((∑ o : Fin 32, arrW2 V c o * max ((∑ k : Fin 4, arrW4 V c o k * chan (fun k => arrH V c k j l) (up p j l : EReal) k)
    + arrG V c o (quo j) (quo l) + arrBs V c o) 0) + arrB2 V c)

include hp in
/-- A point's block, the count before it given. -/
theorem pixelB (t : Fin cfg2.N) (a : Fin 16) (l : Fin 2048) :
    (k2_pay1 (k2_pay22 (dilR (grid2.coords t) (iblk2 V c 0 t)) (dilL (grid2.coords t) (iblk2 V c 0 t)) (before p t.val))
      (k2_pay24 (up2 (grid2.coords t) (iblk2 V c 0 t)))
      (k2_pay25 (up2 (grid2.coords t) (iblk2 V c 0 t)) (iblk2 V c 1 t) (iblk2 V c 2 t) (iblk2 V c 3 t) (iblk2 V c 4 t))
      (FloatOps.ofBits FTy.f32 0#32) (iblk2 V c 5 t) (iblk2 V c 6 t) (ix2 a l) : EReal)
      = out p (hdK V c p) (rowOf (numB t) a) l := by
  have hz : (FloatOps.ofBits (F := Ideal) FTy.f32 0#32 : EReal) = 0 := by
    show Ideal.ofBits .f32 0#32 = 0
    simp [Ideal.ofBits, Ideal.ieee]
  have hu : (up2 (grid2.coords t) (iblk2 V c 0 t) (ix2 ⟨7 + a.val, by omega⟩ l) : EReal) = ((up p (rowOf (numB t) a) l : ℝ) : EReal) :=
    up2_at (grid2.coords t) (numB t) (coordsB t) ⟨7 + a.val, by omega⟩ (rowOf (numB t) a)
      (by show 16 * (numB t).val + a.val + 7 = 16 * (numB t).val + (7 + a.val); omega) (iblk2 V c 0 t) p (blkP V c p hp t) l
  have hs : (k2_pay22 (dilR (grid2.coords t) (iblk2 V c 0 t)) (dilL (grid2.coords t) (iblk2 V c 0 t)) (before p t.val) (ix2 a l) = 1) ↔ _ :=
    sel_at (grid2.coords t) (numB t) (coordsB t) (iblk2 V c 0 t) p (blkP V c p hp t) a l
  rw [read1, hz]
  simp only [read25, hu, iblkB1, iblkB2, iblkB3, iblkB4, iblkB5, iblkB6]
  unfold Scalar.select out
  have hv : (k2_pay24 (up2 (grid2.coords t) (iblk2 V c 0 t)) (ix2 a l) : EReal) = ((up p (rowOf (numB t) a) l : ℝ) : EReal) := by
    unfold k2_pay24
    pointwise
    exact hu
  by_cases h : near p (rowOf (numB t) a) l ∧ cnt p ((rowOf (numB t) a).val * 2048 + l.val) ≤ 262144
  · rw [if_pos (hs.mpr h), if_pos h]
    rfl
  · rw [if_neg (fun g => h (hs.mp g)), if_neg h]
    exact hv

include hp in
/-- What a point leaves at an entry of its output block. -/
theorem outB (t : Fin cfg2.N) (a : Fin 16) (l : Fin 2048) :
    ((outsAt2 V c t.val t.isLt).1 (ix2 a l) : EReal) = out p (hdK V c p) (rowOf (numB t) a) l := by
  have e := pixelB V c p hp t a l
  by_cases h0 : t.val % 128 = 0
  · have hN := lt_of_lt_of_eq t.isLt pointsB
    rw [show t.val = 0 by omega, before_zero] at e
    rw [outsAt2_A V c t h0]
    unfold out2_A_7
    dsimp only
    frame_out
    exact e
  · have hN : t.val - 1 < cfg2.N := lt_of_le_of_lt (Nat.sub_le _ _) t.isLt
    have ec := countB V c p hp (t.val - 1) hN
    rw [show t.val - 1 + 1 = t.val by omega] at ec
    rw [← ec] at e
    rw [outsAt2_B V c t h0]
    unfold out2_B_7
    dsimp only
    frame_out
    rw [read_unread_whole, first_unit]
    exact e

include hp in
/-- The third call's result. -/
theorem oB : (dat2 V c).arrAt 7 cfg2.N = fun i : S2048x2048.Idx => out p (hdK V c p) (i 0) (i 1) := by
  refine (dat2 V c).arrAt_eq_of_covers 7 _ (by decide +kernel) fun t hf y => ?_
  blk_simp
  rw [after2_7]
  idx_vars y
  have e : ((View.whole main_v102).slice (win2_7.rect t)).emb (ix2 y0 y1) = ix2 (rowOf (numB t) y0) y1 := by
    funext a
    apply Fin.ext
    blk_simp [idxB7]
    match a with
    | 0 => simp [rowOf, numB]; omega
    | 1 => simp
  rw [e]
  exact outB V c p hp t y0 y1

end Cert.KernelIdeal.Body
end
-- ==== Proof.Value.KHostA.lean ====
/- What the kernel's host operations leave in each array a call reads, over any contents at their entry. -/
module
public import proofs.«01_k».proof.Proof.KernelIdeal.Frame
public import Idealize.ShloMosaic.Lib.Pointwise
public import Idealize.ShloMosaic.Lib.Tactic
public import Idealize.ShloMosaic.Lib.Tactic.CleanTypes
public import proofs.«01_k».proof.Proof.Value.Spec
@[expose] public section
set_option maxRecDepth 16384
set_option maxHeartbeats 4000000
noncomputable section
namespace Cert.KernelIdeal.Body
open Idealize.ShloMosaic Idealize.SL.Sem Cert.KernelIdeal Cert.KernelIdeal.Gen Cert.Spec
variable (U : Valuation τ sig (Elt Ideal))

/-- The context image, its unit axis dropped. -/
theorem ops_v0 (k : Fin 3) (r s : Fin 512) :
    (StableHlo.after hostOps0 U (Proc.devRef .tc main_v0) (ix3 k r s) : EReal) = U (Proc.devRef .tc main_arg0) (ix4 0 k r s) := by
  have h : StableHlo.after hostOps0 U (Proc.devRef .tc main_v0) = shapeCast S3x512x512 (U (Proc.devRef .tc main_arg0)) shapeCasts_S1x3x512x512_S3x512x512 := by
    unfold hostOps0
    after_results
    all_goals rfl
  rw [h]
  pointwise
/-- The fine image, its unit axis dropped. -/
theorem ops_v1 (k : Fin 3) (r s : Fin 2048) :
    (StableHlo.after hostOps0 U (Proc.devRef .tc main_v1) (ix3 k r s) : EReal) = U (Proc.devRef .tc main_arg1) (ix4 0 k r s) := by
  have h : StableHlo.after hostOps0 U (Proc.devRef .tc main_v1) = shapeCast S3x2048x2048 (U (Proc.devRef .tc main_arg1)) shapeCasts_S1x3x2048x2048_S3x2048x2048 := by
    unfold hostOps0
    after_results
    all_goals rfl
  rw [h]
  pointwise
/-- The padding word is zero. -/
theorem ops_c : StableHlo.after hostOps0 U (Proc.devRef .tc main_c) = constantI S_ 32 0#32 := by
  unfold hostOps0
  after_results

/-- The padded image, as an array of what the stretch found. -/
theorem ops_v2 : StableHlo.after hostOps0_1 U (Proc.devRef .tc main_v2)
    = pad S3x514x514 ![0, 1, 1] ![0, 1, 1] ![0, 0, 0] (U (Proc.devRef .tc main_v0) : FVec Ideal S3x512x512 .f32) (sitofp (F := Ideal) .f32 (U (Proc.devRef .tc main_c) : IVec S_ 32)) pads_S3x512x512_S3x514x514_000_110_110 h_S_ := by
  unfold hostOps0_1
  simp only [StableHlo.TRef.binary, StableHlo.TRef.unary, StableHlo.TRef.toBuf, StableHlo.TRef.ofBuf, cast_eq]
  after_results
  all_goals rfl

/-- The padded image read at a shifted entry: the tap of the image there. -/
theorem pad_tap (hc : U (Proc.devRef .tc main_c) = constantI S_ 32 0#32) (k : Fin 3) (ky kx : ℕ) (r s : Fin 512) (R S : Fin 514)
    (hR : R.val = ky + r.val) (hS : S.val = kx + s.val) :
    (StableHlo.after hostOps0_1 U (Proc.devRef .tc main_v2) (ix3 k R S) : EReal)
      = tap (fun y x => (U (Proc.devRef .tc main_v0) (ix3 k y x) : EReal)) ky kx r s := by
  rw [ops_v2, hc]
  clean_types
  pointwise
  unfold tap
  simp only [hR, hS, add_comm ky, add_comm kx]
  by_cases h : (1 ≤ r.val + ky ∧ r.val + ky - 1 < 512) ∧ 1 ≤ s.val + kx ∧ s.val + kx - 1 < 512
  · rw [dif_pos h, dif_pos h]
  · rw [dif_neg h, dif_neg h]
    show (((0#32).toInt : ℝ) : EReal) = 0
    simp

/-- The first convolution's weights, flattened. -/
theorem ops_v87 (o : Fin 32) (k ky kx : Fin 3) (m : Fin 27) (hm : m.val = k.val * 9 + ky.val * 3 + kx.val) :
    (StableHlo.after hostOps0_2 U (Proc.devRef .tc main_v87) (ix2 o m) : EReal) = U (Proc.devRef .tc main_arg3) (ix4 o k ky kx) := by
  have h : StableHlo.after hostOps0_2 U (Proc.devRef .tc main_v87) = shapeCast S32x27 (U (Proc.devRef .tc main_arg3)) shapeCasts_S32x3x3x3_S32x27 := by
    after_results
    all_goals rfl
  rw [h]
  pointwise
  refine congrArg (U (Proc.devRef .tc main_arg3)) ?_
  have e1 : (⟨m.val / 9, by omega⟩ : Fin 3) = k := Fin.ext (by show m.val / 9 = k.val; omega)
  have e2 : (⟨m.val / 3 % 3, by omega⟩ : Fin 3) = ky := Fin.ext (by show m.val / 3 % 3 = ky.val; omega)
  have e3 : (⟨m.val % 3, by omega⟩ : Fin 3) = kx := Fin.ext (by show m.val % 3 = kx.val; omega)
  rw [e1, e2, e3]
/-- The first convolution's bias, as a column. -/
theorem ops_v94 (o : Fin 32) :
    (StableHlo.after hostOps0_2 U (Proc.devRef .tc main_v94) (ix2 o 0) : EReal) = U (Proc.devRef .tc main_arg4) (ix1 o) := by
  have h : StableHlo.after hostOps0_2 U (Proc.devRef .tc main_v94) = shapeCast S32x1 (U (Proc.devRef .tc main_arg4)) shapeCasts_S32_S32x1 := by
    after_results
    all_goals rfl
  rw [h]
  pointwise
/-- The second convolution's weights, flattened and transposed. -/
theorem ops_v89 (k : Fin 32) (ky kx : Fin 3) (m : Fin 9) (hm : m.val = ky.val * 3 + kx.val) :
    (StableHlo.after hostOps0_2 U (Proc.devRef .tc main_v89) (ix2 m k) : EReal) = U (Proc.devRef .tc main_arg5) (ix4 0 k ky kx) := by
  have h : StableHlo.after hostOps0_2 U (Proc.devRef .tc main_v89) = transpose S9x32 [1, 0] (shapeCast S32x9 (U (Proc.devRef .tc main_arg5)) shapeCasts_S1x32x3x3_S32x9) transposes_S32x9_S9x32_1_0 := by
    after_results
    all_goals rfl
  rw [h]
  pointwise
  refine congrArg (U (Proc.devRef .tc main_arg5)) ?_
  have e2 : (⟨m.val / 3, by omega⟩ : Fin 3) = ky := Fin.ext (by show m.val / 3 = ky.val; omega)
  have e3 : (⟨m.val % 3, by omega⟩ : Fin 3) = kx := Fin.ext (by show m.val % 3 = kx.val; omega)
  rw [e2, e3]
/-- The context rows of the head's first matrix, transposed. -/
theorem ops_v91 (o k : Fin 32) :
    (StableHlo.after hostOps0_2 U (Proc.devRef .tc main_v91) (ix2 o k) : EReal) = U (Proc.devRef .tc main_arg7) (ix2 ⟨4 + k.val, by omega⟩ o) := by
  have h : StableHlo.after hostOps0_2 U (Proc.devRef .tc main_v91) = transpose S32x32 [1, 0] (extractStridedSlice S32x32 ![4, 0] (U (Proc.devRef .tc main_arg7)) slices_S36x32_S32x32_4_0) transposes_S32x32_S32x32_1_0 := by
    after_results
    all_goals rfl
  rw [h]
  pointwise
/-- The image rows of the head's first matrix, transposed. -/
theorem ops_v93 (o : Fin 32) (k : Fin 4) :
    (StableHlo.after hostOps0_2 U (Proc.devRef .tc main_v93) (ix2 o k) : EReal) = U (Proc.devRef .tc main_arg7) (ix2 ⟨k.val, by omega⟩ o) := by
  have h : StableHlo.after hostOps0_2 U (Proc.devRef .tc main_v93) = transpose S32x4 [1, 0] (extractStridedSlice S4x32 ![0, 0] (U (Proc.devRef .tc main_arg7)) slices_S36x32_S4x32_0_0) transposes_S4x32_S32x4_1_0 := by
    after_results
    all_goals rfl
  rw [h]
  pointwise

/-- The second convolution's bias, as one entry. -/
theorem ops_v96 : (StableHlo.after hostOps1 U (Proc.devRef .tc main_v96) (ix2 0 0) : EReal) = U (Proc.devRef .tc main_arg6) (ix1 0) := by
  have h : StableHlo.after hostOps1 U (Proc.devRef .tc main_v96) = shapeCast S1x1 (U (Proc.devRef .tc main_arg6)) shapeCasts_S1_S1x1 := by
    after_results
    all_goals rfl
  rw [h]
  pointwise
/-- The context's products, their rows grouped by four. -/
theorem ops_v98 (o : Fin 32) (r s : Fin 512) :
    (StableHlo.after hostOps2 U (Proc.devRef .tc main_v98) (ix4 o ⟨r.val / 4, by omega⟩ ⟨r.val % 4, by omega⟩ s) : EReal) = U (Proc.devRef .tc main_v95_0) (ix3 o r s) := by
  have h : StableHlo.after hostOps2 U (Proc.devRef .tc main_v98) = shapeCast S32x128x4x512 (U (Proc.devRef .tc main_v95_0)) shapeCasts_S32x512x512_S32x128x4x512 := by
    after_results
    all_goals rfl
  rw [h]
  pointwise
/-- The hidden layer's bias, as a column. -/
theorem ops_v99 (o : Fin 32) :
    (StableHlo.after hostOps2 U (Proc.devRef .tc main_v99) (ix2 o 0) : EReal) = U (Proc.devRef .tc main_arg8) (ix1 o) := by
  have h : StableHlo.after hostOps2 U (Proc.devRef .tc main_v99) = shapeCast S32x1 (U (Proc.devRef .tc main_arg8)) shapeCasts_S32_S32x1 := by
    after_results
    all_goals rfl
  rw [h]
  pointwise
/-- The head's second matrix, transposed. -/
theorem ops_v100 (o : Fin 32) :
    (StableHlo.after hostOps2 U (Proc.devRef .tc main_v100) (ix2 0 o) : EReal) = U (Proc.devRef .tc main_arg9) (ix2 o 0) := by
  have h : StableHlo.after hostOps2 U (Proc.devRef .tc main_v100) = transpose S1x32 [1, 0] (U (Proc.devRef .tc main_arg9)) transposes_S32x1_S1x32_1_0 := by
    after_results
    all_goals rfl
  rw [h]
  pointwise
/-- The head's second bias, as one entry. -/
theorem ops_v101 : (StableHlo.after hostOps2 U (Proc.devRef .tc main_v101) (ix2 0 0) : EReal) = U (Proc.devRef .tc main_arg10) (ix1 0) := by
  have h : StableHlo.after hostOps2 U (Proc.devRef .tc main_v101) = shapeCast S1x1 (U (Proc.devRef .tc main_arg10)) shapeCasts_S1_S1x1 := by
    after_results
    all_goals rfl
  rw [h]
  pointwise
/-- The result, two unit axes put in front. -/
theorem ops_v103 (j l : Fin 2048) :
    (StableHlo.after hostOps3 U (Proc.devRef .tc main_v103) (ix4 0 0 j l) : EReal) = U (Proc.devRef .tc main_v102) (ix2 j l) := by
  have h : StableHlo.after hostOps3 U (Proc.devRef .tc main_v103) = shapeCast S1x1x2048x2048 (U (Proc.devRef .tc main_v102)) shapeCasts_S2048x2048_S1x1x2048x2048 := by
    after_results
    all_goals rfl
  rw [h]
  pointwise
end Cert.KernelIdeal.Body
-- ==== Proof.Value.KHostB.lean ====
/- The 27 shifted images the first call reads, each an entry of the padded image. -/
module
public import proofs.«01_k».proof.Proof.KernelIdeal.Frame
public import Idealize.ShloMosaic.Lib.Pointwise
public import Idealize.ShloMosaic.Lib.Tactic
public import Idealize.ShloMosaic.Lib.StableHlo.RunRead
public import Idealize.ShloMosaic.Lib.Tactic.CleanTypes
public import proofs.«01_k».proof.Proof.Value.Spec
@[expose] public section
set_option maxRecDepth 16384
set_option maxHeartbeats 8000000
noncomputable section
namespace Cert.KernelIdeal.Body
open Idealize.ShloMosaic Idealize.SL.Sem Cert.KernelIdeal Cert.KernelIdeal.Gen Cert.Spec
variable (U : Valuation τ sig (Elt Ideal))

/-- One shifted image, cut out of the padded image at the corner `o`. -/
abbrev plane (X : FVec Ideal S3x514x514 .f32) (o : Fin 3 → ℕ) (h : S3x514x514.Slices o S1x512x512) : FVec Ideal S1x512x512 .f32 :=
  broadcastInDim S1x512x512 ![1, 2] bcast_S512x512_S1x512x512_1_2
    (shapeCast S512x512 (extractStridedSlice S1x512x512 o X h) shapeCasts_S1x512x512_S512x512)

/-- The stack of 27 shifted images. -/
theorem stack_eq : StableHlo.after hostOps0_2 U (Proc.devRef .tc main_v86)
    = concatenate S27x512x512 0
        [⟨S16x512x512, concatenate S16x512x512 0 [⟨S1x512x512, plane (U (Proc.devRef .tc main_v2)) ![0, 0, 0] slices_S3x514x514_S1x512x512_0_0_0⟩, ⟨S1x512x512, plane (U (Proc.devRef .tc main_v2)) ![0, 0, 1] slices_S3x514x514_S1x512x512_0_0_1⟩, ⟨S1x512x512, plane (U (Proc.devRef .tc main_v2)) ![0, 0, 2] slices_S3x514x514_S1x512x512_0_0_2⟩, ⟨S1x512x512, plane (U (Proc.devRef .tc main_v2)) ![0, 1, 0] slices_S3x514x514_S1x512x512_0_1_0⟩, ⟨S1x512x512, plane (U (Proc.devRef .tc main_v2)) ![0, 1, 1] slices_S3x514x514_S1x512x512_0_1_1⟩, ⟨S1x512x512, plane (U (Proc.devRef .tc main_v2)) ![0, 1, 2] slices_S3x514x514_S1x512x512_0_1_2⟩, ⟨S1x512x512, plane (U (Proc.devRef .tc main_v2)) ![0, 2, 0] slices_S3x514x514_S1x512x512_0_2_0⟩, ⟨S1x512x512, plane (U (Proc.devRef .tc main_v2)) ![0, 2, 1] slices_S3x514x514_S1x512x512_0_2_1⟩, ⟨S1x512x512, plane (U (Proc.devRef .tc main_v2)) ![0, 2, 2] slices_S3x514x514_S1x512x512_0_2_2⟩, ⟨S1x512x512, plane (U (Proc.devRef .tc main_v2)) ![1, 0, 0] slices_S3x514x514_S1x512x512_1_0_0⟩, ⟨S1x512x512, plane (U (Proc.devRef .tc main_v2)) ![1, 0, 1] slices_S3x514x514_S1x512x512_1_0_1⟩, ⟨S1x512x512, plane (U (Proc.devRef .tc main_v2)) ![1, 0, 2] slices_S3x514x514_S1x512x512_1_0_2⟩, ⟨S1x512x512, plane (U (Proc.devRef .tc main_v2)) ![1, 1, 0] slices_S3x514x514_S1x512x512_1_1_0⟩, ⟨S1x512x512, plane (U (Proc.devRef .tc main_v2)) ![1, 1, 1] slices_S3x514x514_S1x512x512_1_1_1⟩, ⟨S1x512x512, plane (U (Proc.devRef .tc main_v2)) ![1, 1, 2] slices_S3x514x514_S1x512x512_1_1_2⟩, ⟨S1x512x512, plane (U (Proc.devRef .tc main_v2)) ![1, 2, 0] slices_S3x514x514_S1x512x512_1_2_0⟩] concatenates_S1x512x512_S1x512x512_S1x512x512_S1x512x512_S1x512x512_S1x512x512_S1x512x512_S1x512x512_S1x512x512_S1x512x512_S1x512x512_S1x512x512_S1x512x512_S1x512x512_S1x512x512_S1x512x512_S16x512x512_d0⟩,
         ⟨S11x512x512, concatenate S11x512x512 0 [⟨S1x512x512, plane (U (Proc.devRef .tc main_v2)) ![1, 2, 1] slices_S3x514x514_S1x512x512_1_2_1⟩, ⟨S1x512x512, plane (U (Proc.devRef .tc main_v2)) ![1, 2, 2] slices_S3x514x514_S1x512x512_1_2_2⟩, ⟨S1x512x512, plane (U (Proc.devRef .tc main_v2)) ![2, 0, 0] slices_S3x514x514_S1x512x512_2_0_0⟩, ⟨S1x512x512, plane (U (Proc.devRef .tc main_v2)) ![2, 0, 1] slices_S3x514x514_S1x512x512_2_0_1⟩, ⟨S1x512x512, plane (U (Proc.devRef .tc main_v2)) ![2, 0, 2] slices_S3x514x514_S1x512x512_2_0_2⟩, ⟨S1x512x512, plane (U (Proc.devRef .tc main_v2)) ![2, 1, 0] slices_S3x514x514_S1x512x512_2_1_0⟩, ⟨S1x512x512, plane (U (Proc.devRef .tc main_v2)) ![2, 1, 1] slices_S3x514x514_S1x512x512_2_1_1⟩, ⟨S1x512x512, plane (U (Proc.devRef .tc main_v2)) ![2, 1, 2] slices_S3x514x514_S1x512x512_2_1_2⟩, ⟨S1x512x512, plane (U (Proc.devRef .tc main_v2)) ![2, 2, 0] slices_S3x514x514_S1x512x512_2_2_0⟩, ⟨S1x512x512, plane (U (Proc.devRef .tc main_v2)) ![2, 2, 1] slices_S3x514x514_S1x512x512_2_2_1⟩, ⟨S1x512x512, plane (U (Proc.devRef .tc main_v2)) ![2, 2, 2] slices_S3x514x514_S1x512x512_2_2_2⟩] concatenates_S1x512x512_S1x512x512_S1x512x512_S1x512x512_S1x512x512_S1x512x512_S1x512x512_S1x512x512_S1x512x512_S1x512x512_S1x512x512_S11x512x512_d0⟩]
        concatenates_S16x512x512_S11x512x512_S27x512x512_d0 := by
  after_reads_simp
  all_goals rfl

/-- Plane `9 k + 3 ky + kx` of the stack is the padded image of channel `k` shifted by `(ky, kx)`. -/
theorem ops_v86 (k ky kx : Fin 3) (r s : Fin 512) :
    (StableHlo.after hostOps0_2 U (Proc.devRef .tc main_v86) (ix3 (⟨k.val * 9 + ky.val * 3 + kx.val, by omega⟩ : Fin 27) r s) : EReal)
      = U (Proc.devRef .tc main_v2) (ix3 k (⟨ky.val + r.val, by omega⟩ : Fin 514) (⟨kx.val + s.val, by omega⟩ : Fin 514)) := by
  rw [stack_eq]
  fin_vals k with hk <;> fin_vals ky with hy <;> fin_vals kx with hx
  all_goals
    clean_types
    pointwise [hk, hy, hx]
    refine congrArg (U (Proc.devRef .tc main_v2)) (congr (congr (congrArg ix3 ?_) ?_) ?_) <;> apply Fin.ext <;>
      first | rfl | exact hk.symm | exact Nat.add_comm _ _
end Cert.KernelIdeal.Body
-- ==== Proof.Value.KHost.lean ====
/- The kernel's result at a pixel, in the arguments. -/
module
public import proofs.«01_k».proof.Proof.Value.CallA
public import proofs.«01_k».proof.Proof.Value.CallP
public import proofs.«01_k».proof.Proof.Value.CallB
public import proofs.«01_k».proof.Proof.Value.KHostA
public import proofs.«01_k».proof.Proof.Value.KHostB
@[expose] public section
set_option maxRecDepth 16384
set_option maxHeartbeats 4000000
noncomputable section
namespace Cert.KernelIdeal.Body
open Idealize.ShloMosaic Idealize.ShloMosaic.TcCoe Idealize.SL.Sem Cert.KernelIdeal Cert.KernelIdeal.Gen Cert.Spec
open Idealize.ShloMosaic.Pipeline (Dat)

variable (m : (ℓ : Loc nD τ sig) → Buf (Elt Ideal) ℓ) (ρ : Dev nD → PrngReg) (c : Dev nD)

/-- The arguments, read at an index. -/
def xK (k : Fin 3) (r s : Fin 512) : EReal := m ((c : Thread nD τ).loc main_arg0) (ix4 0 k r s)
/-- The fine image. -/
def hrK (k : Fin 3) (j l : Fin 2048) : EReal := m ((c : Thread nD τ).loc main_arg1) (ix4 0 k j l)
/-- The first convolution's weights. -/
def w1K (o : Fin 32) (k ky kx : Fin 3) : EReal := m ((c : Thread nD τ).loc main_arg3) (ix4 o k ky kx)
/-- The first convolution's bias. -/
def b1K (o : Fin 32) : EReal := m ((c : Thread nD τ).loc main_arg4) (ix1 o)
/-- The second convolution's weights. -/
def wpK (k : Fin 32) (ky kx : Fin 3) : EReal := m ((c : Thread nD τ).loc main_arg5) (ix4 0 k ky kx)
/-- The second convolution's bias. -/
def bpK : EReal := m ((c : Thread nD τ).loc main_arg6) (ix1 0)
/-- The image rows of the head's first matrix. -/
def wf1K (o : Fin 32) (k : Fin 4) : EReal := m ((c : Thread nD τ).loc main_arg7) (ix2 ⟨k.val, by omega⟩ o)
/-- The context rows of the head's first matrix. -/
def wf2K (o k : Fin 32) : EReal := m ((c : Thread nD τ).loc main_arg7) (ix2 ⟨4 + k.val, by omega⟩ o)
/-- The hidden layer's bias. -/
def bf1K (o : Fin 32) : EReal := m ((c : Thread nD τ).loc main_arg8) (ix1 o)
/-- The head's second matrix. -/
def wf3K (o : Fin 32) : EReal := m ((c : Thread nD τ).loc main_arg9) (ix2 o 0)
/-- The head's second bias. -/
def bf2K : EReal := m ((c : Thread nD τ).loc main_arg10) (ix1 0)

/-- The feature and the prediction. -/
def feaK : Fin 32 → Fin 512 → Fin 512 → EReal := feat (xK m c) (w1K m c) (b1K m c)
/-- The prediction. -/
def prK (r s : Fin 512) : EReal := Ideal.logistic (conv (feaK m c) (wpK m c) (bpK m c) r s)

/-- The place of a tap in the row-major order of channel, row and lane. -/
def place (x : Fin 3 × Fin 3 × Fin 3) : Fin 27 := ⟨x.2.2.val * 9 + x.1.val * 3 + x.2.1.val, by omega⟩

/-- Every one of the 27 planes is one tap of one channel. -/
theorem place_bij : Function.Bijective place := by
  constructor
  · rintro ⟨a, b, d⟩ ⟨a', b', d'⟩ h
    have h := congrArg Fin.val h
    simp only [place] at h
    have h1 : d.val = d'.val := by omega
    have h2 : a.val = a'.val := by omega
    have h3 : b.val = b'.val := by omega
    rw [Fin.ext h1, Fin.ext h2, Fin.ext h3]
  · intro y
    refine ⟨(⟨y.val / 3 % 3, by omega⟩, ⟨y.val % 3, by omega⟩, ⟨y.val / 9, by omega⟩), Fin.ext ?_⟩
    simp only [place]
    omega

/-- A sum over the 27 planes, by row and lane of the tap and by channel. -/
theorem sum27 (f : Fin 27 → EReal) :
    ∑ n, f n = ∑ ky : Fin 3, ∑ kx : Fin 3, ∑ k : Fin 3, f ⟨k.val * 9 + ky.val * 3 + kx.val, by omega⟩ := by
  rw [← place_bij.sum_comp f, Fintype.sum_prod_type]
  refine Finset.sum_congr rfl fun ky _ => ?_
  rw [Fintype.sum_prod_type]
  rfl

/-- A tap of a weighted sum is the weighted sum of the taps. -/
theorem tap_sum (w : Fin 32 → EReal) (f : Fin 32 → Fin 512 → Fin 512 → EReal) (ky kx : ℕ) (r s : Fin 512) :
    tap (fun y x => ∑ k, w k * f k y x) ky kx r s = ∑ k, w k * tap (f k) ky kx r s := by
  unfold tap
  by_cases h : (1 ≤ r.val + ky ∧ r.val + ky - 1 < 512) ∧ 1 ≤ s.val + kx ∧ s.val + kx - 1 < 512
  · simp only [dif_pos h]
  · simp only [dif_neg h, mul_zero, Finset.sum_const_zero]

/-- The nine taps in order, the bias in front or behind. -/
theorem nine (b : EReal) (f : Fin 3 → Fin 3 → EReal) :
    b + f 0 0 + f 0 1 + f 0 2 + f 1 0 + f 1 1 + f 1 2 + f 2 0 + f 2 1 + f 2 2 = (∑ ky, ∑ kx, f ky kx) + b := by
  simp only [Fin.sum_univ_three, add_assoc]
  rw [add_comm b]
  simp only [add_assoc]

/-- The first call's images: the taps of the input. -/
theorem arrX_at (k ky kx : Fin 3) (r s : Fin 512) :
    arrX (V3 m ρ) c ⟨k.val * 9 + ky.val * 3 + kx.val, by omega⟩ r s = tap (xK m c k) ky.val kx.val r s := by
  unfold arrX
  refine (ops_v86 (W2 m ρ c) k ky kx r s).trans ?_
  refine (pad_tap (W1 m ρ c) (ops_c (W0 m ρ c)) k ky.val kx.val r s _ _ rfl rfl).trans ?_
  refine congrArg (fun u => tap u ky.val kx.val r s) ?_
  funext y x
  exact ops_v0 (W0 m ρ c) k y x

/-- The first call's weights. -/
theorem arrW_at (o : Fin 32) (k ky kx : Fin 3) :
    arrW (V3 m ρ) c o ⟨k.val * 9 + ky.val * 3 + kx.val, by omega⟩ = w1K m c o k ky kx := by
  unfold arrW
  refine (ops_v87 (W2 m ρ c) o k ky kx _ rfl).trans ?_
  exact congrFun (W2_args m ρ c main_arg3 (by decide)) _

/-- The first call's bias. -/
theorem arrB_at (o : Fin 32) : arrB (V3 m ρ) c o = b1K m c o := by
  unfold arrB
  refine (ops_v94 (W2 m ρ c) o).trans ?_
  exact congrFun (W2_args m ρ c main_arg4 (by decide)) _

/-- The first call's context rows. -/
theorem arrS_at (o k : Fin 32) : arrS (V3 m ρ) c o k = wf2K m c o k := by
  unfold arrS
  refine (ops_v91 (W2 m ρ c) o k).trans ?_
  exact congrFun (W2_args m ρ c main_arg7 (by decide)) _

/-- The first call's tap weights. -/
theorem arrT_at (k : Fin 32) (ky kx : Fin 3) (n : Fin 9) (hn : n.val = ky.val * 3 + kx.val) : arrT (V3 m ρ) c n k = wpK m c k ky kx := by
  unfold arrT
  refine (ops_v89 (W2 m ρ c) k ky kx n hn).trans ?_
  exact congrFun (W2_args m ρ c main_arg5 (by decide)) _

/-- The feature the first call forms. -/
theorem featK_at (k : Fin 32) (r s : Fin 512) : featK (V3 m ρ) c k r s = feaK m c k r s := by
  unfold featK feaK feat
  rw [sum27, arrB_at]
  simp only [arrX_at, arrW_at]

/-- The first call's first result. -/
theorem gVal_at (o : Fin 32) (r s : Fin 512) : gVal (V3 m ρ) c o r s = ∑ k, wf2K m c o k * feaK m c k r s := by
  unfold gVal
  simp only [arrS_at, featK_at]

/-- The first call's second result. -/
theorem tVal_at (ky kx : Fin 3) (n : Fin 9) (hn : n.val = ky.val * 3 + kx.val) (r s : Fin 512) :
    tVal (V3 m ρ) c n r s = ∑ k, wpK m c k ky kx * feaK m c k r s := by
  unfold tVal
  simp only [featK_at, fun k => arrT_at m ρ c k ky kx n hn]

/-- The second call's images: the first call's second result. -/
theorem arrQ_at (ky kx : Fin 3) (n : Fin 9) (hn : n.val = ky.val * 3 + kx.val) :
    arrQ (V5 m ρ) c n = fun r s => ∑ k, wpK m c k ky kx * feaK m c k r s := by
  funext r s
  unfold arrQ
  refine (congrFun ((W5_of m ρ c main_v95_1 (by decide)).trans ((W4_arr m ρ c 6).trans (tA (V3 m ρ) c))) (ix3 n r s)).trans ?_
  exact tVal_at m ρ c ky kx n hn r s

/-- The second call's bias. -/
theorem arrBp_at : arrBp (V5 m ρ) c = bpK m c := by
  unfold arrBp
  refine (ops_v96 (W4 m ρ c)).trans ?_
  exact congrFun (W4_args m ρ c main_arg6 (by decide)) _

/-- The prediction the second call forms. -/
theorem predK_at (r s : Fin 512) : predK (V5 m ρ) c r s = prK m c r s := by
  unfold predK prK conv
  rw [arrQ_at m ρ c 0 0 0 rfl, arrQ_at m ρ c 0 1 1 rfl, arrQ_at m ρ c 0 2 2 rfl, arrQ_at m ρ c 1 0 3 rfl, arrQ_at m ρ c 1 1 4 rfl,
    arrQ_at m ρ c 1 2 5 rfl, arrQ_at m ρ c 2 0 6 rfl, arrQ_at m ρ c 2 1 7 rfl, arrQ_at m ρ c 2 2 8 rfl, arrBp_at]
  simp only [tap_sum]
  exact congrArg Ideal.logistic (nine (bpK m c) fun ky kx => ∑ k, wpK m c k ky kx * tap (feaK m c k) ky.val kx.val r s)

/-- The prediction as a real number. -/
def pK (r s : Fin 512) : ℝ := Cert.Spec.sig (conv (feaK m c) (wpK m c) (bpK m c) r s)

/-- The third call's prediction, a real number. -/
theorem arrP_at (r s : Fin 512) : arrP (V7 m ρ) c r s = ((pK m c r s : ℝ) : EReal) := by
  unfold arrP
  refine (congrFun ((W7_of m ρ c main_v97 (by decide)).trans ((W6_arr m ρ c 2).trans (pP (V5 m ρ) c))) (ix2 r s)).trans ?_
  refine (predK_at m ρ c r s).trans ?_
  exact (coe_sig _).symm

/-- The third call's fine image. -/
theorem arrH_at (k : Fin 3) (j l : Fin 2048) : arrH (V7 m ρ) c k j l = hrK m c k j l := by
  unfold arrH
  refine (congrFun ((W7_of m ρ c main_v1 (by decide)).trans ((W6_of m ρ c main_v1 (by decide +kernel)).trans ((W5_of m ρ c main_v1 (by decide)).trans
    ((W4_of m ρ c main_v1 (by decide +kernel)).trans ((W3_of m ρ c main_v1 (by decide)).trans (W2_of m ρ c main_v1 (by decide))))))) (ix3 k j l)).trans ?_
  exact ops_v1 (W0 m ρ c) k j l

/-- The third call's context products. -/
theorem arrG_at (o : Fin 32) (r s : Fin 512) : arrG (V7 m ρ) c o r s = ∑ k, wf2K m c o k * feaK m c k r s := by
  unfold arrG
  refine (ops_v98 (W6 m ρ c) o r s).trans ?_
  refine (congrFun ((W6_of m ρ c main_v95_0 (by decide +kernel)).trans ((W5_of m ρ c main_v95_0 (by decide)).trans
    ((W4_arr m ρ c 5).trans (gA (V3 m ρ) c)))) (ix3 o r s)).trans ?_
  exact gVal_at m ρ c o r s

/-- The third call's image rows of the first matrix. -/
theorem arrW4_at (o : Fin 32) (k : Fin 4) : arrW4 (V7 m ρ) c o k = wf1K m c o k := by
  unfold arrW4
  refine (congrFun ((W7_of m ρ c main_v93 (by decide)).trans ((W6_of m ρ c main_v93 (by decide +kernel)).trans ((W5_of m ρ c main_v93 (by decide)).trans
    (W4_of m ρ c main_v93 (by decide +kernel))))) (ix2 o k)).trans ?_
  refine (ops_v93 (W2 m ρ c) o k).trans ?_
  exact congrFun (W2_args m ρ c main_arg7 (by decide)) _

/-- The third call's hidden bias. -/
theorem arrBs_at (o : Fin 32) : arrBs (V7 m ρ) c o = bf1K m c o := by
  unfold arrBs
  refine (ops_v99 (W6 m ρ c) o).trans ?_
  exact congrFun (W6_args m ρ c main_arg8 (by decide)) _

/-- The third call's second matrix. -/
theorem arrW2_at (o : Fin 32) : arrW2 (V7 m ρ) c o = wf3K m c o := by
  unfold arrW2
  refine (ops_v100 (W6 m ρ c) o).trans ?_
  exact congrFun (W6_args m ρ c main_arg9 (by decide)) _

/-- The third call's second bias. -/
theorem arrB2_at : arrB2 (V7 m ρ) c = bf2K m c := by
  unfold arrB2
  refine (ops_v101 (W6 m ρ c)).trans ?_
  exact congrFun (W6_args m ρ c main_arg10 (by decide)) _

/-- The head the kernel applies at a pixel. -/
def hdA (j l : Fin 2048) : EReal :=
  head (wf1K m c) (wf2K m c) (bf1K m c) (wf3K m c) (bf2K m c) (chan (fun k => hrK m c k j l) (up (pK m c) j l : EReal)) (fun k => feaK m c k (quo j) (quo l))

/-- The head the third call applies is the head of the arguments. -/
theorem hdK_at : hdK (V7 m ρ) c (pK m c) = hdA m c := by
  funext j l
  unfold hdK hdA head
  simp only [arrW2_at, arrW4_at, arrH_at, arrG_at, arrBs_at, arrB2_at]

/-- The kernel's result at a pixel. -/
theorem out_at (j l : Fin 2048) :
    (W9 m ρ c (Proc.devRef .tc main_v103) (ix4 0 0 j l) : EReal) = out (pK m c) (hdA m c) j l := by
  refine (ops_v103 (W8 m ρ c) j l).trans ?_
  refine (congrFun ((W8_arr m ρ c 7).trans (oB (V7 m ρ) c (pK m c) (arrP_at m ρ c))) (ix2 j l)).trans ?_
  rw [hdK_at]
  rfl
end Cert.KernelIdeal.Body
end
-- ==== Proof.Value.RefU.lean ====
/- The reference's resize, read at an index. -/
module
public import proofs.«01_k».proof.Proof.Gen.ReferenceIdeal.Run
public import Idealize.ShloMosaic.Lib.Pointwise
public import Idealize.ShloMosaic.Lib.Tactic
public import Idealize.ShloMosaic.Lib.Tactic.CleanTypes
public import proofs.«01_k».proof.Proof.Value.Weights
@[expose] public section
set_option maxRecDepth 16384
set_option maxHeartbeats 4000000
noncomputable section
namespace Cert.ReferenceIdeal.Value
open Idealize.ShloMosaic Idealize.SL.Sem Cert.ReferenceIdeal Cert.Spec
variable (V0 : Valuation τ sig (Elt Ideal))

/-- The constant one half. -/
theorem c_half : Ideal.ofBits FTy.f32 1056964608#32 = ((1 / 2 : ℝ) : EReal) := by
  simp [Ideal.ofBits, Ideal.ieee, -EReal.coe_mul]; norm_num
/-- The constant one quarter. -/
theorem c_quarter : Ideal.ofBits FTy.f32 1048576000#32 = ((1 / 4 : ℝ) : EReal) := by
  simp [Ideal.ofBits, Ideal.ieee, -EReal.coe_mul]; norm_num
/-- The constant one. -/
theorem c_one : Ideal.ofBits FTy.f32 1065353216#32 = ((1 : ℝ) : EReal) := by
  simp [Ideal.ofBits, Ideal.ieee, -EReal.coe_mul]; norm_num
/-- The lowest sampling point kept. -/
theorem c_low : Ideal.ofBits FTy.f32 3204448256#32 = ((-(1 / 2) : ℝ) : EReal) := by
  simp [Ideal.ofBits, Ideal.ieee, -EReal.coe_mul, -EReal.coe_neg]; norm_num
/-- The highest sampling point kept. -/
theorem c_high : Ideal.ofBits FTy.f32 1140834304#32 = ((1023 / 2 : ℝ) : EReal) := by
  simp [Ideal.ofBits, Ideal.ieee, -EReal.coe_mul]; norm_num

/-- A small number's word, read signed. -/
theorem toInt_small (n : Fin 2048) : (BitVec.ofNat 32 n.val).toInt = (n.val : ℤ) := by
  revert n
  decide +kernel

/-- The absolute value of a real. -/
theorem abs_real (x : ℝ) : max ((x : ℝ) : EReal) (-((x : ℝ) : EReal)) = ((|x| : ℝ) : EReal) := by
  rw [← EReal.coe_neg, abs_eq_max_neg]
  exact (EReal.coe_strictMono.monotone.map_max).symm

/-- The sampling points of the first resize. -/
theorem pos3 (l : Fin 2048) : (res_main_call3_v9 V0 (ix1 l) : EReal) = ((((l.val : ℝ) + 1 / 2) * (1 / 4) - 1 / 2 : ℝ) : EReal) := by
  unfold res_main_call3_v9
  clean_types
  pointwise
  rw [c_half, c_quarter]
  show ((((BitVec.ofNat 32 l.val).toInt : ℝ) : EReal) + _) * _ - _ = _
  rw [toInt_small]
  push_cast
  rfl

/-- The sampling points of the second resize. -/
theorem pos4 (l : Fin 2048) : (res_main_call4_v9 V0 (ix1 l) : EReal) = ((((l.val : ℝ) + 1 / 2) * (1 / 4) - 1 / 2 : ℝ) : EReal) := pos3 V0 l

/-- The unnormalised weights of the first resize. -/
theorem hat3 (k : Fin 512) (l : Fin 2048) : (res_main_call3_v24 V0 (ix2 k l) : EReal) = ((hat k l : ℝ) : EReal) := by
  unfold res_main_call3_v24
  clean_types
  pointwise
  rw [pos3]
  have hm : (id (maximumf (F := Ideal) (constant S_ FTy.f32 1048576000#32) (constant S_ FTy.f32 1065353216#32)) ix0 : EReal) = ((1 : ℝ) : EReal) := by
    show max (Ideal.ofBits FTy.f32 1048576000#32) (Ideal.ofBits FTy.f32 1065353216#32) = _
    rw [c_quarter, c_one, ← EReal.coe_strictMono.monotone.map_max]
    norm_num
  have hk : (FloatOps.sitofp (F := Ideal) FTy.f32 (BitVec.ofNat 32 k.val) : EReal) = ((k.val : ℝ) : EReal) := by
    show (((BitVec.ofNat 32 k.val).toInt : ℝ) : EReal) = _
    rw [toInt_small ⟨k.val, by omega⟩]
    rfl
  rw [hm, hk, Ideal.div_coe one_ne_zero]
  show max 0 (1 - max (max _ (-_) * _) (-(max _ (-_) * _))) = _
  rw [← EReal.coe_sub, abs_real, ← EReal.coe_mul, abs_real, ← EReal.coe_one, ← EReal.coe_zero, ← EReal.coe_sub,
    ← EReal.coe_strictMono.monotone.map_max]
  unfold hat
  rw [one_div_one, mul_one, abs_abs]

/-- The unnormalised weights of the second resize. -/
theorem hat4 (k : Fin 512) (l : Fin 2048) : (res_main_call4_v24 V0 (ix2 k l) : EReal) = ((hat k l : ℝ) : EReal) := hat3 V0 k l

/-- The weights' sums of the first resize. -/
theorem tot3 (l : Fin 2048) : (res_main_call3_v26 V0 (ix2 0 l) : EReal) = ((tot l : ℝ) : EReal) := by
  unfold res_main_call3_v26
  clean_types
  pointwise
  simp only [hat3]
  rw [← coe_sum]
  rfl

/-- The weights' sums of the second resize. -/
theorem tot4 (l : Fin 2048) : (res_main_call4_v26 V0 (ix2 0 l) : EReal) = ((tot l : ℝ) : EReal) := tot3 V0 l

/-- Every sampling point is in range. -/
theorem pos_range (l : Fin 2048) :
    IntOp.andi (BitVec.ofBool (decide (Ideal.ofBits FTy.f32 3204448256#32 ≤ ((((l.val : ℝ) + 1 / 2) * (1 / 4) - 1 / 2 : ℝ) : EReal))))
      (BitVec.ofBool (decide (((((l.val : ℝ) + 1 / 2) * (1 / 4) - 1 / 2 : ℝ) : EReal) ≤ Ideal.ofBits FTy.f32 1140834304#32))) = 1 := by
  have hl : (l.val : ℝ) ≤ 2047 := by have := l.isLt; exact_mod_cast (by omega : l.val ≤ 2047)
  have h0 : (0 : ℝ) ≤ l.val := Nat.cast_nonneg _
  have h1 : Ideal.ofBits FTy.f32 3204448256#32 ≤ ((((l.val : ℝ) + 1 / 2) * (1 / 4) - 1 / 2 : ℝ) : EReal) := by
    rw [c_low, EReal.coe_le_coe_iff]; linarith
  have h2 : ((((l.val : ℝ) + 1 / 2) * (1 / 4) - 1 / 2 : ℝ) : EReal) ≤ Ideal.ofBits FTy.f32 1140834304#32 := by
    rw [c_high, EReal.coe_le_coe_iff]; linarith
  rw [decide_eq_true h1, decide_eq_true h2]
  rfl

/-- The threshold under which a sum counts as zero is below one half. -/
theorem c_tiny : Ideal.ofBits FTy.f32 955908096#32 < ((1 / 2 : ℝ) : EReal) := by
  have : Ideal.ofBits FTy.f32 955908096#32 = (((16384000 : ℝ) * (2 ^ 37)⁻¹ : ℝ) : EReal) := by
    simp [Ideal.ofBits, Ideal.ieee, -EReal.coe_mul]
  rw [this, EReal.coe_lt_coe_iff]
  norm_num

/-- A normalised weight. -/
theorem weight (k : Fin 512) (l : Fin 2048) (t h : EReal) (ht : t = ((tot l : ℝ) : EReal)) (hh : h = ((hat k l : ℝ) : EReal)) (z o : EReal) :
    (if Ideal.ofBits FTy.f32 955908096#32 < max t (-t) then Ideal.div h (if t ≠ 0 then t else o) else z)
      = ((hat k l * (1 / tot l) : ℝ) : EReal) := by
  have h0 := half_le_tot l
  have hn : tot l ≠ 0 := by linarith
  subst ht hh
  rw [abs_real, if_pos, if_pos, Ideal.div_coe hn, EReal.coe_mul]
  · exact fun h => hn (by exact_mod_cast h)
  · refine lt_of_lt_of_le c_tiny ?_
    rw [EReal.coe_le_coe_iff, abs_of_nonneg (by linarith)]
    exact h0

/-- The resized prediction, the prediction being real. -/
theorem ups_at (p : Fin 512 → Fin 512 → ℝ) (hp : ∀ r s, (res_main_v122 V0 (ix2 r s) : EReal) = ((p r s : ℝ) : EReal)) (j l : Fin 2048) :
    (res_main_v125 V0 (ix4 0 0 j l) : EReal) = ((up p j l : ℝ) : EReal) := by
  unfold res_main_v125
  clean_types
  pointwise
  simp only [pos3, pos4, pos_range]
  unfold Scalar.select
  simp only [if_true]
  unfold up
  rw [← sum_norm, coe_sum]
  refine Finset.sum_congr rfl fun x _ => ?_
  rw [EReal.coe_mul]
  refine (mul_comm _ _).trans (congrArg₂ (· * ·) (weight x l _ _ (tot4 V0 l) (hat4 V0 x l) _ _) ?_)
  rw [← sum_norm, coe_sum]
  refine Finset.sum_congr rfl fun k _ => ?_
  rw [EReal.coe_mul, hp]
  exact congrArg (· * _) (weight k j _ _ (tot3 V0 j) (hat3 V0 k j) _ _)

end Cert.ReferenceIdeal.Value
end
-- ==== Proof.Value.RefM.lean ====
/- The reference's dilated mask, read at an index. -/
module
public import proofs.«01_k».proof.Proof.Gen.ReferenceIdeal.Run
public import Idealize.ShloMosaic.Lib.Pointwise
public import Idealize.ShloMosaic.Lib.Tactic
public import Idealize.ShloMosaic.Lib.Tactic.CleanTypes
public import proofs.«01_k».proof.Proof.Value.RefU
@[expose] public section
set_option maxRecDepth 16384
set_option maxHeartbeats 4000000
noncomputable section
namespace Cert.ReferenceIdeal.Value
open Idealize.ShloMosaic Idealize.SL.Sem Cert.ReferenceIdeal Cert.ReferenceIdeal.Gen Cert.Spec
variable (V0 : Valuation τ sig (Elt Ideal))

/-- The greatest of a list of values over a start: at least each, and one of them or the start. -/
theorem foldl_max {ι : Type} (L : List ι) (g : ι → EReal) : ∀ b : EReal,
    b ≤ L.foldl (fun r n => max r (g n)) b ∧ (∀ n ∈ L, g n ≤ L.foldl (fun r n => max r (g n)) b)
      ∧ (L.foldl (fun r n => max r (g n)) b = b ∨ ∃ n ∈ L, L.foldl (fun r n => max r (g n)) b = g n) := by
  induction L with
  | nil => intro b; exact ⟨le_rfl, by simp, Or.inl rfl⟩
  | cons a L ih =>
    intro b
    obtain ⟨h1, h2, h3⟩ := ih (max b (g a))
    rw [List.foldl_cons]
    refine ⟨(le_max_left _ _).trans h1, ?_, ?_⟩
    · intro n hn
      rcases List.mem_cons.mp hn with rfl | hn
      · exact (le_max_right _ _).trans h1
      · exact h2 n hn
    · rcases h3 with h3 | ⟨n, hn, h3⟩
      · rcases max_choice b (g a) with h | h
        · exact Or.inl (h3.trans h)
        · exact Or.inr ⟨a, List.mem_cons_self, h3.trans h⟩
      · exact Or.inr ⟨n, List.mem_cons_of_mem _ hn, h3⟩

/-- One where some value is one, zero where none is and some value is zero. -/
theorem foldl_flag {n : ℕ} (g : Fin n → EReal) (Q : Prop) [Decidable Q] (h1 : Q → ∃ m, g m = 1) (h0 : ¬ Q → ∀ m, g m = ⊥ ∨ g m = 0)
    (hg : ∀ m, g m = ⊥ ∨ g m = 0 ∨ g m = 1) (hc : ∃ m, g m ≠ ⊥) :
    (List.finRange n).foldl (fun r m => max r (g m)) ⊥ = if Q then 1 else 0 := by
  obtain ⟨_, h2, h3⟩ := foldl_max (List.finRange n) g ⊥
  have h01 : (0 : EReal) < 1 := zero_lt_one
  generalize (List.finRange n).foldl (fun r m => max r (g m)) ⊥ = r at h2 h3
  have h2' : ∀ m, g m ≤ r := fun m => h2 m (List.mem_finRange m)
  obtain ⟨c, hc⟩ := hc
  have hr : r ≠ ⊥ := fun h => hc (le_bot_iff.mp (h ▸ h2' c))
  rcases h3 with h3 | ⟨m, _, h3⟩
  · exact absurd h3 hr
  · by_cases q : Q
    · rw [if_pos q]
      obtain ⟨k, hk⟩ := h1 q
      have := h2' k
      rw [hk] at this
      rcases hg m with h | h | h
      · exact absurd (h3.trans h) hr
      · rw [h3, h] at this
        exact absurd this (not_le.mpr h01)
      · exact h3.trans h
    · rw [if_neg q]
      rcases h0 q m with h | h
      · exact absurd (h3.trans h) hr
      · exact h3.trans h

/-- The 15 × 15 window's greatest value of an indicator. -/
theorem window_at (x : FVec Ideal S1x1x2048x2048 .f32) (P : Fin 2048 → Fin 2048 → Prop) [∀ r s, Decidable (P r s)] (Q : Prop) [Decidable Q]
    (hx : ∀ r s, (x (ix4 0 0 r s) : EReal) = if P r s then 1 else 0) (v : FVec Ideal S_ .f32) (hv : ∀ i, (v i : EReal) = ⊥) (h) (hu) (j l : Fin 2048)
    (hQ : Q ↔ ∃ d e : Fin 15, ∃ h : (7 ≤ j.val + d.val ∧ j.val + d.val - 7 < 2048) ∧ 7 ≤ l.val + e.val ∧ l.val + e.val - 7 < 2048,
          P ⟨j.val + d.val - 7, h.1.2⟩ ⟨l.val + e.val - 7, h.2.2⟩) :
    (Host.reduceWindow (t := S1x1x2048x2048) (FloatOps.maximumf (F := Ideal) (φ := .f32)) ![1, 1, 15, 15] ![1, 1, 1, 1] ![0, 0, 7, 7] ![0, 0, 7, 7] x v h hu (ix4 0 0 j l) : EReal)
      = if Q then 1 else 0 := by
  unfold Host.reduceWindow
  dsimp only
  rw [hv]
  have key : ∀ (w : Shape.Idx ⟨4, ![1, 1, 15, 15]⟩) (d e : Fin 15), (w 2).val = d.val → (w 3).val = e.val →
      ∀ inst : Decidable (∀ a : Fin 4, (![0, 0, 7, 7] : Fin 4 → ℕ) a ≤ ((ix4 0 0 j l : S1x1x2048x2048.Idx) a).val * (![1, 1, 1, 1] : Fin 4 → ℕ) a + (w a).val
          ∧ ((ix4 0 0 j l : S1x1x2048x2048.Idx) a).val * (![1, 1, 1, 1] : Fin 4 → ℕ) a + (w a).val - (![0, 0, 7, 7] : Fin 4 → ℕ) a < S1x1x2048x2048.size a),
      @dite EReal (∀ a : Fin 4, (![0, 0, 7, 7] : Fin 4 → ℕ) a ≤ ((ix4 0 0 j l : S1x1x2048x2048.Idx) a).val * (![1, 1, 1, 1] : Fin 4 → ℕ) a + (w a).val
          ∧ ((ix4 0 0 j l : S1x1x2048x2048.Idx) a).val * (![1, 1, 1, 1] : Fin 4 → ℕ) a + (w a).val - (![0, 0, 7, 7] : Fin 4 → ℕ) a < S1x1x2048x2048.size a) inst
        (fun hin => x (fun a => ⟨((ix4 0 0 j l : S1x1x2048x2048.Idx) a).val * (![1, 1, 1, 1] : Fin 4 → ℕ) a + (w a).val - (![0, 0, 7, 7] : Fin 4 → ℕ) a, (hin a).2⟩)) (fun _ => ⊥)
      = if h : (7 ≤ j.val + d.val ∧ j.val + d.val - 7 < 2048) ∧ 7 ≤ l.val + e.val ∧ l.val + e.val - 7 < 2048 then
          (if P ⟨j.val + d.val - 7, h.1.2⟩ ⟨l.val + e.val - 7, h.2.2⟩ then 1 else 0) else ⊥ := by
    intro w d e hd he inst
    have w0 : (w 0).val = 0 := Nat.lt_one_iff.mp (w 0).isLt
    have w1 : (w 1).val = 0 := Nat.lt_one_iff.mp (w 1).isLt
    have hiff : (∀ a : Fin 4, (![0, 0, 7, 7] : Fin 4 → ℕ) a ≤ ((ix4 0 0 j l : S1x1x2048x2048.Idx) a).val * (![1, 1, 1, 1] : Fin 4 → ℕ) a + (w a).val
          ∧ ((ix4 0 0 j l : S1x1x2048x2048.Idx) a).val * (![1, 1, 1, 1] : Fin 4 → ℕ) a + (w a).val - (![0, 0, 7, 7] : Fin 4 → ℕ) a < S1x1x2048x2048.size a)
        ↔ ((7 ≤ j.val + d.val ∧ j.val + d.val - 7 < 2048) ∧ 7 ≤ l.val + e.val ∧ l.val + e.val - 7 < 2048) := by
      constructor
      · intro h
        have h2 : 7 ≤ j.val * 1 + (w 2).val ∧ j.val * 1 + (w 2).val - 7 < 2048 := h 2
        have h3 : 7 ≤ l.val * 1 + (w 3).val ∧ l.val * 1 + (w 3).val - 7 < 2048 := h 3
        rw [hd, mul_one] at h2
        rw [he, mul_one] at h3
        exact ⟨h2, h3⟩
      · rintro ⟨h2, h3⟩ a
        match a with
        | 0 => show 0 ≤ 0 * 1 + (w 0).val ∧ 0 * 1 + (w 0).val - 0 < 1; omega
        | 1 => show 0 ≤ 0 * 1 + (w 1).val ∧ 0 * 1 + (w 1).val - 0 < 1; omega
        | 2 => show 7 ≤ j.val * 1 + (w 2).val ∧ j.val * 1 + (w 2).val - 7 < 2048; omega
        | 3 => show 7 ≤ l.val * 1 + (w 3).val ∧ l.val * 1 + (w 3).val - 7 < 2048; omega
    by_cases hh : (7 ≤ j.val + d.val ∧ j.val + d.val - 7 < 2048) ∧ 7 ≤ l.val + e.val ∧ l.val + e.val - 7 < 2048
    · rw [dif_pos hh, dif_pos (hiff.mpr hh), ← hx]
      refine congrArg x ?_
      funext a
      apply Fin.ext
      match a with
      | 0 => show 0 * 1 + (w 0).val - 0 = 0; omega
      | 1 => show 0 * 1 + (w 1).val - 0 = 0; omega
      | 2 => show j.val * 1 + (w 2).val - 7 = j.val + d.val - 7; omega
      | 3 => show l.val * 1 + (w 3).val - 7 = l.val + e.val - 7; omega
    · rw [dif_neg hh, dif_neg fun h => hh (hiff.mp h)]
  have at_de : ∀ d e : Fin 15, ∃ m, (((Shape.rowMajor ⟨4, ![1, 1, 15, 15]⟩).symm m) 2).val = d.val ∧ (((Shape.rowMajor ⟨4, ![1, 1, 15, 15]⟩).symm m) 3).val = e.val := by
    intro d e
    refine ⟨Shape.rowMajor ⟨4, ![1, 1, 15, 15]⟩ (fun a => match a with | 0 => (⟨0, Nat.zero_lt_one⟩ : Fin 1) | 1 => (⟨0, Nat.zero_lt_one⟩ : Fin 1) | 2 => d | 3 => e), ?_⟩
    rw [Equiv.symm_apply_apply]
    exact ⟨rfl, rfl⟩
  refine foldl_flag _ _ ?_ ?_ ?_ ?_
  · intro hq
    obtain ⟨d, e, hh, hP⟩ := hQ.mp hq
    obtain ⟨m, hd, he⟩ := at_de d e
    refine ⟨m, (key _ d e hd he _).trans ?_⟩
    rw [dif_pos hh, if_pos hP]
  · intro hn m
    refine Or.imp (fun g => (key ((Shape.rowMajor ⟨4, ![1, 1, 15, 15]⟩).symm m) (((Shape.rowMajor ⟨4, ![1, 1, 15, 15]⟩).symm m) 2) (((Shape.rowMajor ⟨4, ![1, 1, 15, 15]⟩).symm m) 3) rfl rfl _).trans g) (fun g => (key ((Shape.rowMajor ⟨4, ![1, 1, 15, 15]⟩).symm m) (((Shape.rowMajor ⟨4, ![1, 1, 15, 15]⟩).symm m) 2) (((Shape.rowMajor ⟨4, ![1, 1, 15, 15]⟩).symm m) 3) rfl rfl _).trans g) ?_
    split_ifs with h hP
    · exact absurd (hQ.mpr ⟨_, _, h, hP⟩) hn
    · exact Or.inr rfl
    · exact Or.inl rfl
  · intro m
    refine Or.imp (fun g => (key ((Shape.rowMajor ⟨4, ![1, 1, 15, 15]⟩).symm m) (((Shape.rowMajor ⟨4, ![1, 1, 15, 15]⟩).symm m) 2) (((Shape.rowMajor ⟨4, ![1, 1, 15, 15]⟩).symm m) 3) rfl rfl _).trans g) (Or.imp (fun g => (key ((Shape.rowMajor ⟨4, ![1, 1, 15, 15]⟩).symm m) (((Shape.rowMajor ⟨4, ![1, 1, 15, 15]⟩).symm m) 2) (((Shape.rowMajor ⟨4, ![1, 1, 15, 15]⟩).symm m) 3) rfl rfl _).trans g) (fun g => (key ((Shape.rowMajor ⟨4, ![1, 1, 15, 15]⟩).symm m) (((Shape.rowMajor ⟨4, ![1, 1, 15, 15]⟩).symm m) 2) (((Shape.rowMajor ⟨4, ![1, 1, 15, 15]⟩).symm m) 3) rfl rfl _).trans g)) ?_
    split_ifs with h hP
    · exact Or.inr (Or.inr rfl)
    · exact Or.inr (Or.inl rfl)
    · exact Or.inl rfl
  · obtain ⟨m, hd, he⟩ := at_de 7 7
    refine ⟨m, fun h => ?_⟩
    have k := (key _ 7 7 hd he _).symm.trans h
    rw [dif_pos ⟨⟨by show 7 ≤ j.val + 7; omega, by show j.val + 7 - 7 < 2048; omega⟩, by show 7 ≤ l.val + 7; omega, by show l.val + 7 - 7 < 2048; omega⟩] at k
    split_ifs at k
    · exact absurd k (EReal.coe_ne_bot 1)
    · exact absurd k (EReal.coe_ne_bot 0)

open Classical in
/-- A bit read as a number. -/
theorem bit_nat (b : BitVec 1) : (FloatOps.uitofp (F := Ideal) .f32 b : EReal) = if b = 1 then 1 else 0 := by
  show ((b.toNat : ℝ) : EReal) = _
  rcases (by revert b; decide : b = 0 ∨ b = 1) with rfl | rfl
  · rw [if_neg (by decide)]
    simp
  · rw [if_pos rfl]
    simp

/-- The conjunction of two bits is set when both are. -/
theorem and_one (x y : BitVec 1) : (IntOp.andi x y = 1) = (x = 1 ∧ y = 1) := by revert x y; decide
/-- The bit of a decided statement is set when the statement holds. -/
theorem ofBool_one (P : Prop) [Decidable P] : (BitVec.ofBool (decide P) = 1) = P := by by_cases h : P <;> simp [h]

/-- The window's starting value is minus infinity. -/
theorem bot_at (i : S_.Idx) : (broadcastInDim S_ ![] bcast_S_S_ (constant (F := Ideal) S_ .f32 0xFF800000#32) i : EReal) = ⊥ := by
  show Ideal.ofBits .f32 0xFF800000#32 = ⊥
  simp [Ideal.ofBits, Ideal.ieee]

/-- The reference's dilated mask at a flattened position. -/
theorem mask_at (p : Fin 512 → Fin 512 → ℝ) (hp : ∀ r s, (res_main_v122 V0 (ix2 r s) : EReal) = ((p r s : ℝ) : EReal)) (n : Fin 4194304) :
    (res_main_v141 V0 (ix1 n) : EReal) = ((flag p n.val : ℝ) : EReal) := by
  unfold res_main_v141
  clean_types
  pointwise
  classical
  refine (window_at _ (fun r s => open01 (up p r s)) (near p ⟨n.val / 2048, by omega⟩ ⟨n.val % 2048, by omega⟩) (fun r s => ?_) _ bot_at _ _ _ _ Iff.rfl).trans ?_
  · pointwise
    rw [ups_at V0 p hp]
    refine (bit_nat _).trans ?_
    by_cases g : open01 (up p r s)
    · rw [if_pos (by rw [and_one, ofBool_one, ofBool_one]; exact g), if_pos g]
    · rw [if_neg (by rw [and_one, ofBool_one, ofBool_one]; exact g), if_neg g]
  · unfold flag
    have e : (⟨n.val / 2048 % 2048, Nat.mod_lt _ (by norm_num)⟩ : Fin 2048) = ⟨n.val / 2048, by omega⟩ := by
      apply Fin.ext
      show n.val / 2048 % 2048 = n.val / 2048
      omega
    rw [e]
    by_cases h : near p ⟨n.val / 2048, by omega⟩ ⟨n.val % 2048, by omega⟩
    · rw [if_pos h, if_pos h]; simp
    · rw [if_neg h, if_neg h]; simp

end Cert.ReferenceIdeal.Value
end
-- ==== Proof.Value.Sel.lean ====
module
public import Idealize.ShloMosaic.Lib.PlanTiles.StableSort
public import Idealize.ShloMosaic.Lib.Pointwise
@[expose] public section
noncomputable section
namespace Cert.Spec
open Idealize.ShloMosaic

/-- The order a descending stable sort by a 0/1 key compares with. -/
def ahead {n : ℕ} (g : Fin n → ℕ) (a b : Fin n) : Bool := decide (g b < g a)

/-- Of two sorted places the earlier holds the greater key, or of equal keys the lower position. -/
theorem sorted_lex {n : ℕ} (g : Fin n → ℕ) (x y : Fin n) (h : x < y) :
    g (sortedFrom (ahead g) y) < g (sortedFrom (ahead g) x)
      ∨ (g (sortedFrom (ahead g) x) = g (sortedFrom (ahead g) y) ∧ sortedFrom (ahead g) x < sortedFrom (ahead g) y) := by
  have hp := PlanTiles.pairwise_stableSort_lex g (· < ·) (List.finRange n) (List.pairwise_lt_finRange n)
  have := List.pairwise_iff_get.mp hp (x.cast (length_sortPositions n (ahead g)).symm) (y.cast (length_sortPositions n (ahead g)).symm) h
  exact this

/-- A key's place in the sort is the number of keys before it. -/
theorem place_of_key {n : ℕ} (g : Fin n → ℕ) (hg : ∀ i, g i ≤ 1) (x : Fin n) (hx : g (sortedFrom (ahead g) x) = 1) :
    x.val = ∑ i : Fin n, if i < sortedFrom (ahead g) x then g i else 0 := by
  have hbij : Function.Bijective (sortedFrom (ahead g)) := ⟨sortedFrom_injective _, sortedFrom_surjective _⟩
  rw [← hbij.sum_comp (fun i => if i < sortedFrom (ahead g) x then g i else 0)]
  have e : ∀ y : Fin n, (if sortedFrom (ahead g) y < sortedFrom (ahead g) x then g (sortedFrom (ahead g) y) else 0)
      = if y.val < x.val then 1 else 0 := by
    intro y
    rcases lt_trichotomy y x with h | h | h
    · rw [if_pos (show y.val < x.val from h)]
      rcases sorted_lex g y x h with h1 | ⟨h1, h2⟩
      · have := hg (sortedFrom (ahead g) y)
        omega
      · rw [if_pos h2, h1, hx]
    · subst h
      rw [if_neg (lt_irrefl _), if_neg (lt_irrefl _)]
    · rw [if_neg (show ¬ y.val < x.val by have : x.val < y.val := h; omega)]
      rcases sorted_lex g x y h with h1 | ⟨h1, h2⟩
      · rw [show g (sortedFrom (ahead g) y) = 0 by omega, ite_self]
      · rw [if_neg (not_lt.mpr h2.le)]
  rw [Finset.sum_congr rfl fun y _ => e y]
  have hs : (∑ y : Fin n, if y.val < x.val then 1 else 0) = ∑ y ∈ Finset.range x.val, 1 := by
    rw [Fin.sum_univ_eq_sum_range (fun y => if y < x.val then 1 else 0) n, ← Finset.sum_filter]
    congr 1
    ext z
    simp only [Finset.mem_filter, Finset.mem_range]
    have := x.isLt
    omega
  rw [hs]
  simp

/-- The first `K` places hold a key's position exactly if at most `K` keys lie up to it. -/
theorem exists_place_iff {n K : ℕ} (hK : K ≤ n) (f : ℕ → ℕ) (hf : ∀ i, f i ≤ 1) (p : Fin n) (hp : f p.val = 1) :
    (∃ y : Fin n, y.val < K ∧ sortedFrom (ahead fun i : Fin n => f i.val) y = p) ↔ ∑ k ∈ Finset.range (p.val + 1), f k ≤ K := by
  have hc : ∀ y : Fin n, sortedFrom (ahead fun i : Fin n => f i.val) y = p → ∑ k ∈ Finset.range (p.val + 1), f k = y.val + 1 := by
    intro y hy
    have h := place_of_key (fun i : Fin n => f i.val) (fun i => hf i.val) y (by rw [hy]; exact hp)
    rw [hy] at h
    have hs : (∑ i : Fin n, if i < p then f i.val else 0) = ∑ k ∈ Finset.range p.val, f k := by
      have : ∀ i : Fin n, (if i < p then f i.val else 0) = if i.val < p.val then f i.val else 0 := fun i => rfl
      rw [Finset.sum_congr rfl fun i _ => this i, Fin.sum_univ_eq_sum_range (fun i => if i < p.val then f i else 0) n, ← Finset.sum_filter]
      congr 1
      ext z
      simp only [Finset.mem_filter, Finset.mem_range]
      have := p.isLt
      omega
    rw [Finset.sum_range_succ, hp, ← hs, ← h]
  constructor
  · rintro ⟨y, hy, hyp⟩
    rw [hc y hyp]
    omega
  · intro h
    obtain ⟨y, hy⟩ := sortedFrom_surjective (ahead fun i : Fin n => f i.val) p
    refine ⟨y, ?_, hy⟩
    rw [hc y hy] at h
    omega

end Cert.Spec
end
-- ==== Proof.Value.RefT.lean ====
module
public import proofs.«01_k».proof.Proof.Value.Sel
public import Idealize.ShloMosaic.Lib.Routing.Words
public import Idealize.ShloMosaic.Lib.Routing.OpsSet
public import Idealize.ShloMosaic.Lib.Pointwise
@[expose] public section
set_option maxHeartbeats 1000000
noncomputable section
namespace Cert.Spec
open Idealize.ShloMosaic

/-- A rank-1 index by its coordinate. -/
theorem ofFin_ix1 {n : ℕ} (i : Fin n) : (Shape.Idx.ofFin i : (⟨1, ![n]⟩ : Shape).Idx) = ix1 i := by
  funext a
  match a with
  | ⟨0, _⟩ => rfl

/-- Comparing two counts read as extended reals. -/
theorem gt_count (a b : ℕ) : (FloatOps.cmpfTotal (F := Ideal) (φ := .f32) .gt ((a : ℝ) : EReal) ((b : ℝ) : EReal) == 1#1) = decide (b < a) := by
  have h : (((b : ℝ) : EReal) < ((a : ℝ) : EReal)) ↔ b < a := by rw [EReal.coe_lt_coe_iff, Nat.cast_lt]
  show (BitVec.ofBool (decide (((b : ℝ) : EReal) < ((a : ℝ) : EReal))) == 1#1) = _
  by_cases g : b < a
  · rw [decide_eq_true (h.mpr g), decide_eq_true g]
    rfl
  · rw [decide_eq_false (fun e => g (h.mp e)), decide_eq_false g]
    rfl

/-- The first `k` of a descending stable sort of counts, with their positions. -/
theorem topK_at {n k : ℕ} (hk : k ≤ n) (x : FVec Ideal ⟨1, ![n]⟩ .f32) (f : Fin n → ℕ) (hx : ∀ i, (x (ix1 i) : EReal) = ((f i : ℝ) : EReal))
    (h : (⟨1, ![n]⟩ : Shape).Slices (fun _ => 0) ⟨1, ![k]⟩) (y : Fin k) :
    (Host.topK (s := ⟨1, ![n]⟩) ⟨1, ![k]⟩ 0 (FloatOps.cmpfTotal (F := Ideal) (φ := .f32) .gt) x h).2 (ix1 y)
        = BitVec.ofNat 32 (sortedFrom (ahead f) ⟨y.val, lt_of_lt_of_le y.isLt hk⟩).val
      ∧ ((Host.topK (s := ⟨1, ![n]⟩) ⟨1, ![k]⟩ 0 (FloatOps.cmpfTotal (F := Ideal) (φ := .f32) .gt) x h).1 (ix1 y) : EReal)
        = ((f (sortedFrom (ahead f) ⟨y.val, lt_of_lt_of_le y.isLt hk⟩) : ℝ) : EReal) := by
  have hπ : ∀ j : (⟨1, ![n]⟩ : Shape).Idx, sortedFrom (fun a b : Fin n => FloatOps.cmpfTotal (F := Ideal) (φ := .f32) .gt (x (j.along (0 : Fin 1) a)) (x (j.along (0 : Fin 1) b)) == 1#1)
      = sortedFrom (ahead f) := by
    intro j
    refine congrArg sortedFrom (funext fun a => funext fun b => ?_)
    rw [Shape.Idx.along_rank1, Shape.Idx.along_rank1, ofFin_ix1, ofFin_ix1, hx, hx]
    exact gt_count _ _
  have hj : ∀ (j : (⟨1, ![n]⟩ : Shape).Idx), j 0 = (⟨y.val, lt_of_lt_of_le y.isLt hk⟩ : Fin n) →
      j.along (0 : Fin 1) (sortedFrom (fun a b : Fin n => FloatOps.cmpfTotal (F := Ideal) (φ := .f32) .gt (x (j.along (0 : Fin 1) a)) (x (j.along (0 : Fin 1) b)) == 1#1) (j 0))
        = ix1 (sortedFrom (ahead f) ⟨y.val, lt_of_lt_of_le y.isLt hk⟩) := by
    intro j e
    refine (Shape.Idx.along_rank1 j _).trans ((ofFin_ix1 _).trans (congrArg ix1 ?_))
    exact (congrFun (hπ j) (j 0)).trans (congrArg (sortedFrom (ahead f)) e)
  have h0 : ∀ (j : (⟨1, ![n]⟩ : Shape).Idx), (j 0).val = 0 + y.val → j 0 = (⟨y.val, lt_of_lt_of_le y.isLt hk⟩ : Fin n) :=
    fun j e => Fin.ext (e.trans (Nat.zero_add _))
  constructor
  · exact congrArg (fun j : (⟨1, ![n]⟩ : Shape).Idx => BitVec.ofNat 32 (j 0).val) (hj _ (h0 _ rfl))
  · exact (congrArg x (hj _ (h0 _ rfl))).trans (hx _)

/-- A scatter of `k` numbers along a vector lands where its index word says. -/
theorem lands_at {n k : ℕ} (d : ScatterDims ⟨1, ![n]⟩ ⟨2, ![k, 1]⟩ ⟨1, ![k]⟩) (hi : d.insertedWindowDims = [0]) (hs : d.scatterDimsToOperandDims = [0])
    (hv : d.indexVectorDim = 1) (idx : IVec ⟨2, ![k, 1]⟩ 32) (y : Fin k) (x : Fin n) :
    d.resultIdx? (ix1 y) idx = some (ValueIdx.ix1 x) ↔ (idx (ix2 y 0)).toInt = (x.val : ℤ) := by
  have hw : d.window (ix1 y) 0 = 0 := by
    unfold ScatterDims.window
    rw [dif_neg]
    intro h
    refine of_decide_eq_true (List.mem_filter.1 h).2 ?_
    rw [hi]
    exact List.mem_singleton.2 rfl
  have hm : (0 : Fin 1) ∈ d.scatterDimsToOperandDims := by
    rw [hs]
    exact List.mem_singleton.2 rfl
  have hst : d.start (ix1 y) idx 0 = (idx (ix2 y 0)).toInt := by
    unfold ScatterDims.start
    rw [dif_pos hm]
    refine congrArg (fun j => (idx j).toInt) ?_
    funext b
    apply Fin.ext
    match b with
    | ⟨0, _⟩ =>
      unfold ScatterDims.siIdx
      rw [dif_neg (by rw [hv]; exact Nat.zero_ne_one)]
      unfold ScatterDims.siCoord
      have e : ∀ z : Fin 1, ((ix1 y : (⟨1, ![k]⟩ : Shape).Idx) z).val = y.val := fun z => by
        obtain rfl : z = 0 := Subsingleton.elim _ _
        rfl
      simp only [Fin.val_cast]
      exact e _
    | ⟨1, _⟩ => exact (Nat.lt_one_iff.mp (Fin.isLt _)).trans rfl
  rw [Routing.resultIdx?_ix1, hst, hw, Nat.cast_zero, add_zero]

end Cert.Spec
end
-- ==== Proof.Value.RefS.lean ====
module
public import proofs.«01_k».proof.Proof.Value.RefM
public import proofs.«01_k».proof.Proof.Value.RefT
@[expose] public section
set_option maxRecDepth 16384
set_option maxHeartbeats 4000000
noncomputable section
namespace Cert.ReferenceIdeal.Value
open Idealize.ShloMosaic Idealize.SL.Sem Cert.ReferenceIdeal Cert.ReferenceIdeal.Gen Cert.Spec

/-- The flattened position of the `y`-th pixel the reference selects. -/
def plc (p : Fin 512 → Fin 512 → ℝ) (y : Fin 262144) : Fin 4194304 :=
  sortedFrom (ahead fun i : Fin 4194304 => flag p i.val) ⟨y.val, lt_of_lt_of_le y.isLt (by norm_num)⟩

variable (V0 : Valuation τ sig (Elt Ideal)) (p : Fin 512 → Fin 512 → ℝ) (hp : ∀ r s, (res_main_v122 V0 (ix2 r s) : EReal) = ((p r s : ℝ) : EReal))

include hp in
/-- The selected position, as a word. -/
theorem idx_at (y : Fin 262144) : (res_main_indices V0 (ix1 y) : BitVec 32) = BitVec.ofNat 32 (plc p y).val := by
  unfold res_main_indices
  exact (topK_at (by norm_num) (res_main_v141 V0) (fun i : Fin 4194304 => flag p i.val) (mask_at V0 p hp) _ y).1

include hp in
/-- The selected mask value. -/
theorem val_at (y : Fin 262144) :
    ((Host.topK S262144 0 (FloatOps.cmpfTotal (F := Ideal) (φ := .f32) .gt) (res_main_v141 V0) sliceFits_S4194304_S262144).1 (ix1 y) : EReal)
      = ((flag p (plc p y).val : ℝ) : EReal) :=
  (topK_at (by norm_num) (res_main_v141 V0) (fun i : Fin 4194304 => flag p i.val) (mask_at V0 p hp) _ y).2

/-- A flag is zero or one. -/
theorem flag_or (n : ℕ) : flag p n = 0 ∨ flag p n = 1 := by
  unfold flag
  split_ifs
  · exact Or.inr rfl
  · exact Or.inl rfl

/-- Testing a flag for being positive returns the flag. -/
theorem positive_at (v : FVec Ideal S262144 .f32) (y : Fin 262144) (f : ℕ) (hf : f = 0 ∨ f = 1) (hv : (v (ix1 y) : EReal) = ((f : ℝ) : EReal)) :
    (uitofp (F := Ideal) .f32 (cmpf .ogt v (broadcastInDim S262144 ![] bcast_S_S262144 (constant S_ .f32 0x00000000#32))) (ix1 y) : EReal) = ((f : ℝ) : EReal) := by
  pointwise
  rw [hv]
  refine (bit_nat _).trans ?_
  rcases hf with rfl | rfl
  · rw [if_neg (by rw [ofBool_one]; simp)]
    simp
  · rw [if_pos (by rw [ofBool_one]; simp)]
    simp

include hp in
/-- The validity of a selected position is its flag. -/
theorem valid_at (y : Fin 262144) : (res_main_v173 V0 (ix1 y) : EReal) = ((flag p (plc p y).val : ℝ) : EReal) :=
  positive_at _ y _ (flag_or p _) (val_at V0 p hp y)

/-- A small number as a signed word. -/
theorem toInt_word (n : ℕ) (hn : n < 2 ^ 31) : (BitVec.ofNat 32 n).toInt = (n : ℤ) := StableHlo.Predicate.toInt_ofNat_small n hn

/-- A position that is not negative is not wrapped. -/
theorem no_wrap (n : ℕ) (c : BitVec 32) (hn : n < 2 ^ 31) :
    Scalar.select (IntOp.cmpi .slt (BitVec.ofNat 32 n) 0#32) (IntOp.addi (BitVec.ofNat 32 n) c) (BitVec.ofNat 32 n) = BitVec.ofNat 32 n := by
  have h : IntOp.cmpi .slt (BitVec.ofNat 32 n) 0#32 = 0#1 := by
    show BitVec.ofBool (decide ((BitVec.ofNat 32 n).toInt < (0#32 : BitVec 32).toInt)) = 0#1
    rw [decide_eq_false]
    · rfl
    · rw [toInt_word n hn, show (0#32 : BitVec 32).toInt = 0 by decide]
      omega
  rw [h]
  rfl

include hp in
/-- The first gather's positions. -/
theorem start_at (y : Fin 262144) : (res_main_call5_v5 V0 (ix2 y 0) : BitVec 32) = BitVec.ofNat 32 (plc p y).val := by
  unfold res_main_call5_v5
  clean_types
  pointwise
  rw [idx_at V0 p hp]
  exact no_wrap _ _ (by have := (plc p y).isLt; omega)

include hp in
/-- The second gather's positions. -/
theorem start2_at (y : Fin 262144) : (res_main_call12_v5 V0 (ix2 y 0) : BitVec 32) = BitVec.ofNat 32 (plc p y).val := by
  unfold res_main_call12_v5
  clean_types
  pointwise
  rw [idx_at V0 p hp]
  exact no_wrap _ _ (by have := (plc p y).isLt; omega)

include hp in
/-- The row of a selected position. -/
theorem row_at (y : Fin 262144) : (res_main_v143 V0 (ix1 y) : BitVec 32) = BitVec.ofNat 32 ((plc p y).val / 2048) := by
  have h := (plc p y).isLt
  exact Routing.pyDiv_ap (s := S262144) bcast_S_S262144 (res_main_indices V0) (id (constantI S_ 32 2048#32)) (ix1 y) (b := 2048) (idx_at V0 p hp y) rfl (by omega) (by norm_num) (by norm_num)

include hp in
/-- The lane of a selected position. -/
theorem lane_at (y : Fin 262144) : (res_main_v144 V0 (ix1 y) : BitVec 32) = BitVec.ofNat 32 ((plc p y).val % 2048) := by
  have h := (plc p y).isLt
  exact Routing.pyRem_ap (s := S262144) bcast_S_S262144 (res_main_indices V0) (id (constantI S_ 32 2048#32)) (ix1 y) (b := 2048) (idx_at V0 p hp y) rfl (by omega) (by norm_num) (by norm_num)

include hp in
/-- The cell of the low-resolution image under a selected position. -/
theorem cell_at (y : Fin 262144) : (res_main_v149 V0 (ix1 y) : BitVec 32)
    = BitVec.ofNat 32 ((plc p y).val / 2048 / 4 * 512 + (plc p y).val % 2048 / 4) := by
  have h := (plc p y).isLt
  have e1 := Routing.pyDiv_ap (s := S262144) bcast_S_S262144 (res_main_v143 V0) (id (constantI S_ 32 4#32)) (ix1 y) (b := 4) (row_at V0 p hp y) rfl (by omega) (by norm_num) (by norm_num)
  have e2 := Routing.pyDiv_ap (s := S262144) bcast_S_S262144 (res_main_v144 V0) (id (constantI S_ 32 4#32)) (ix1 y) (b := 4) (lane_at V0 p hp y) rfl (by omega) (by norm_num) (by norm_num)
  refine (congrArg₂ (α := BitVec 32) (β := BitVec 32) (fun a b : BitVec 32 => a * 512#32 + b) e1 e2).trans ?_
  show BitVec.ofNat 32 _ * BitVec.ofNat 32 512 + BitVec.ofNat 32 _ = _
  rw [← BitVec.ofNat_mul, ← BitVec.ofNat_add]

include hp in
/-- The third gather's positions. -/
theorem start3_at (y : Fin 262144) : (res_main_call10_v5 V0 (ix2 y 0) : BitVec 32)
    = BitVec.ofNat 32 ((plc p y).val / 2048 / 4 * 512 + (plc p y).val % 2048 / 4) := by
  unfold res_main_call10_v5
  clean_types
  pointwise
  rw [cell_at V0 p hp]
  exact no_wrap _ _ (by have := (plc p y).isLt; omega)

/-- An index within the bounds passes the reference's bounds check. -/
theorem inside_at (idx : IVec S262144x1 32) (hi : ℕ) (y : Fin 262144) (n : ℕ) (hn : n ≤ hi) (h31 : hi < 2 ^ 31) (e : idx (ix2 y 0) = BitVec.ofNat 32 n) :
    (Host.reduce IntOp.andi (andi (cmpi .sge idx (broadcastInDim S262144x1 ![] bcast_S_S262144x1 (constantI S_ 32 0#32))) (cmpi .sle idx (broadcastInDim S262144x1 ![0, 1] bcast_S1x1_S262144x1_0_1 (broadcastInDim S1x1 ![1] bcast_S1_S1x1_1 (constantI S1 32 (BitVec.ofNat 32 hi)))))) (constantI S_ 1 1#1) reducesTo_S262144x1_S262144_d1 h_S_ (ix1 y) : BitVec 1) = 1#1 := by
  pointwise
  rw [show (Finset.univ : Finset (Fin 1)) = {0} from rfl, Finset.fold_singleton, e]
  have h1 : IntOp.cmpi .sge (BitVec.ofNat 32 n) 0#32 = 1#1 := by
    show BitVec.ofBool (decide ((0#32 : BitVec 32).toInt ≤ (BitVec.ofNat 32 n).toInt)) = 1#1
    rw [decide_eq_true]
    · rfl
    · rw [toInt_word n (by omega), show (0#32 : BitVec 32).toInt = 0 by decide]
      omega
  have h2 : IntOp.cmpi .sle (BitVec.ofNat 32 n) (BitVec.ofNat 32 hi) = 1#1 := by
    show BitVec.ofBool (decide ((BitVec.ofNat 32 n).toInt ≤ (BitVec.ofNat 32 hi).toInt)) = 1#1
    rw [decide_eq_true]
    · rfl
    · rw [toInt_word n (by omega), toInt_word hi h31]
      omega
  rw [h1, h2]
  rfl

end Cert.ReferenceIdeal.Value
end
-- ==== Proof.Value.RefA.lean ====
/- The reference's feature and prediction, read at an index. -/
module
public import proofs.«01_k».proof.Proof.Gen.ReferenceIdeal.Run
public import Idealize.ShloMosaic.Lib.Pointwise
public import Idealize.ShloMosaic.Lib.Tactic
public import Idealize.ShloMosaic.Lib.Tactic.CleanTypes
public import proofs.«01_k».proof.Proof.Value.Spec
@[expose] public section
set_option maxRecDepth 16384
set_option maxHeartbeats 4000000
noncomputable section
namespace Cert.ReferenceIdeal.Value
open Idealize.ShloMosaic Idealize.SL.Sem Cert.ReferenceIdeal Cert.Spec
variable (V0 : Valuation τ sig (Elt Ideal))

/-- The arguments, read at an index. -/
def xin (c : Fin 3) (r s : Fin 512) : EReal := V0 (Proc.tc.devRef main_arg0) (ix4 0 c r s)
/-- The first convolution's weights. -/
def w1 (o : Fin 32) (c ky kx : Fin 3) : EReal := V0 (Proc.tc.devRef main_arg3) (ix4 o c ky kx)
/-- The first convolution's bias. -/
def b1 (o : Fin 32) : EReal := V0 (Proc.tc.devRef main_arg4) (ix1 o)
/-- The second convolution's weights. -/
def wp (c : Fin 32) (ky kx : Fin 3) : EReal := V0 (Proc.tc.devRef main_arg5) (ix4 0 c ky kx)
/-- The second convolution's bias. -/
def bp : EReal := V0 (Proc.tc.devRef main_arg6) (ix1 0)

/-- The feature. -/
def fea : Fin 32 → Fin 512 → Fin 512 → EReal := feat (xin V0) (w1 V0) (b1 V0)
/-- The prediction. -/
def prd (r s : Fin 512) : EReal := Ideal.logistic (conv (fea V0) (wp V0) (bp V0) r s)

/-- The padded image at a shifted entry is the tap of the image. -/
theorem v1_tap (c : Fin 3) (ky kx : ℕ) (r s : Fin 512) (R S : Fin 514) (hR : R.val = ky + r.val) (hS : S.val = kx + s.val) :
    (res_main_v1 V0 (ix3 c R S) : EReal) = tap (xin V0 c) ky kx r s := by
  unfold res_main_v1
  clean_types
  pointwise
  unfold tap
  simp only [hR, hS, add_comm ky, add_comm kx]
  by_cases h : (1 ≤ r.val + ky ∧ r.val + ky - 1 < 512) ∧ 1 ≤ s.val + kx ∧ s.val + kx - 1 < 512
  · rw [dif_pos h, dif_pos h]; rfl
  · rw [dif_neg h, dif_neg h]
    show (((0#32).toInt : ℝ) : EReal) = 0
    simp

/-- The sum over nine taps, written out. -/
theorem sum33 (f : Fin 3 → Fin 3 → EReal) :
    ∑ ky, ∑ kx, f ky kx = f 0 0 + f 0 1 + f 0 2 + f 1 0 + f 1 1 + f 1 2 + f 2 0 + f 2 1 + f 2 2 := by
  simp only [Fin.sum_univ_three, add_assoc]

/-- Nine sums, term by term. -/
theorem chain9 {a0 a1 a2 a3 a4 a5 a6 a7 a8 b0 b1 b2 b3 b4 b5 b6 b7 b8 : EReal} (h0 : a0 = b0) (h1 : a1 = b1) (h2 : a2 = b2) (h3 : a3 = b3)
    (h4 : a4 = b4) (h5 : a5 = b5) (h6 : a6 = b6) (h7 : a7 = b7) (h8 : a8 = b8) :
    a0 + a1 + a2 + a3 + a4 + a5 + a6 + a7 + a8 = b0 + b1 + b2 + b3 + b4 + b5 + b6 + b7 + b8 := by
  rw [h0, h1, h2, h3, h4, h5, h6, h7, h8]

/-- The reference's feature at an index. -/
theorem fea_at (o : Fin 32) (r s : Fin 512) : (res_main_v52 V0 (ix4 0 o r s) : EReal) = fea V0 o r s := by
  unfold res_main_v52
  clean_types
  pointwise
  unfold fea feat
  rw [sum33]
  refine congrArg (fun z => max (z + b1 V0 o) 0) (chain9 ?_ ?_ ?_ ?_ ?_ ?_ ?_ ?_ ?_)
  all_goals
    refine Finset.sum_congr rfl fun x _ => congrArg (w1 V0 o x _ _ * ·) ?_
    exact v1_tap V0 x _ _ r s _ _ (by first | rfl | exact (Nat.zero_add _).symm) (by first | rfl | exact (Nat.zero_add _).symm)

/-- The padded feature at a shifted entry is the tap of the feature. -/
theorem v54_tap (c : Fin 32) (ky kx : ℕ) (r s : Fin 512) (R S : Fin 514) (hR : R.val = ky + r.val) (hS : S.val = kx + s.val) :
    (res_main_v54 V0 (ix3 c R S) : EReal) = tap (fea V0 c) ky kx r s := by
  unfold res_main_v54
  clean_types
  pointwise
  unfold tap
  simp only [hR, hS, add_comm ky, add_comm kx]
  by_cases h : (1 ≤ r.val + ky ∧ r.val + ky - 1 < 512) ∧ 1 ≤ s.val + kx ∧ s.val + kx - 1 < 512
  · rw [dif_pos h, dif_pos h]; exact fea_at V0 c _ _
  · rw [dif_neg h, dif_neg h]
    show (((0#32).toInt : ℝ) : EReal) = 0
    simp

/-- A crop as large as the array starts at zero, whatever position is asked for. -/
theorem start_zero (ht : S1x1x512x512.rank = S1x1x512x512.rank) (start : Fin S1x1x512x512.rank → Int) (a : Fin S1x1x512x512.rank) :
    Host.clampedStart S1x1x512x512 S1x1x512x512 ht start a = 0 := by
  unfold Host.clampedStart
  have : S1x1x512x512.size (a.cast ht.symm) = S1x1x512x512.size a := rfl
  omega

/-- The reference's prediction at an index. -/
theorem prd_at (r s : Fin 512) : (res_main_v122 V0 (ix2 r s) : EReal) = prd V0 r s := by
  unfold res_main_v122
  clean_types
  pointwise
  unfold prd conv
  rw [sum33]
  refine congrArg (fun z => Ideal.logistic (z + bp V0)) (chain9 ?_ ?_ ?_ ?_ ?_ ?_ ?_ ?_ ?_)
  all_goals
    refine Finset.sum_congr rfl fun x _ => congrArg (wp V0 x _ _ * ·) ?_
    exact v54_tap V0 x _ _ r s _ _ (by simp [start_zero]) (by simp [start_zero])

end Cert.ReferenceIdeal.Value
end
-- ==== Proof.Value.RefX.lean ====
module
public import proofs.«01_k».proof.Proof.Value.RefS
public import proofs.«01_k».proof.Proof.Value.RefA
@[expose] public section
set_option maxRecDepth 16384
set_option maxHeartbeats 4000000
noncomputable section
namespace Cert.ReferenceIdeal.Value
open Idealize.ShloMosaic Idealize.SL.Sem Cert.ReferenceIdeal Cert.ReferenceIdeal.Gen Cert.Spec
variable (V0 : Valuation τ sig (Elt Ideal))

/-- The image channels, a pixel a row. -/
def perm : FVec Ideal S4194304x4 .f32 := (shapeCast _ (transpose S1x2048x2048x4 [0, 2, 3, 1] (concatenate S1x4x2048x2048 1 [⟨S1x3x2048x2048, (V0 (Proc.devRef .tc main_arg1))⟩, ⟨S1x1x2048x2048, (Host.divf (subf (res_main_v125 V0) (broadcastInDim S1x1x2048x2048 ![] bcast_S_S1x1x2048x2048 (constant S_ .f32 0x3F000000#32))) (broadcastInDim S1x1x2048x2048 ![] bcast_S_S1x1x2048x2048 (constant S_ .f32 0x3F000000#32)))⟩] concatenates_S1x3x2048x2048_S1x1x2048x2048_S1x4x2048x2048_d1) transposes_S1x4x2048x2048_S1x2048x2048x4_0_2_3_1) shapeCasts_S1x2048x2048x4_S4194304x4)

/-- The features, a cell a row. -/
def fperm : FVec Ideal S262144x32 .f32 := (shapeCast _ (transpose S1x512x512x32 [0, 2, 3, 1] (res_main_v52 V0) transposes_S1x32x512x512_S1x512x512x32_0_2_3_1) shapeCasts_S1x512x512x32_S262144x32)

/-- The channels of the selected pixels. -/
def x4 : FVec Ideal S262144x4 .f32 := (select (broadcastInDim S262144x4 ![0] bcast_S262144_S262144x4_0 (Host.reduce IntOp.andi (andi (cmpi .sge (res_main_call5_v5 V0) (broadcastInDim S262144x1 ![] bcast_S_S262144x1 (constantI S_ 32 0#32))) (cmpi .sle (res_main_call5_v5 V0) (broadcastInDim S262144x1 ![0, 1] bcast_S1x1_S262144x1_0_1 (broadcastInDim S1x1 ![1] bcast_S1_S1x1_1 (constantI S1 32 4194303#32))))) (constantI S_ 1 1#1) reducesTo_S262144x1_S262144_d1 h_S_)) (Host.gather gather_S4194304x4_S262144x1_S262144x4_1_0_n_n_0_1_14 (perm V0) (res_main_call5_v5 V0)) (broadcastInDim S262144x4 ![] bcast_S_S262144x4 (constant S_ .f32 0x7FC00000#32)))

/-- The features of the selected pixels. -/
def cx : FVec Ideal S262144x32 .f32 := (select (broadcastInDim S262144x32 ![0] bcast_S262144_S262144x32_0 (Host.reduce IntOp.andi (andi (cmpi .sge (res_main_call10_v5 V0) (broadcastInDim S262144x1 ![] bcast_S_S262144x1 (constantI S_ 32 0#32))) (cmpi .sle (res_main_call10_v5 V0) (broadcastInDim S262144x1 ![0, 1] bcast_S1x1_S262144x1_0_1 (broadcastInDim S1x1 ![1] bcast_S1_S1x1_1 (constantI S1 32 262143#32))))) (constantI S_ 1 1#1) reducesTo_S262144x1_S262144_d1 h_S_)) (Host.gather gather_S262144x32_S262144x1_S262144x32_1_0_n_n_0_1_132 (fperm V0) (res_main_call10_v5 V0)) (broadcastInDim S262144x32 ![] bcast_S_S262144x32 (constant S_ .f32 0x7FC00000#32)))

/-- The hidden layer of the selected pixels. -/
def hid : FVec Ideal S262144x32 .f32 := (maximumf (addf (Host.dotGeneral (φ₂ := .f32) dot_S262144x36_S36x32_S262144x32_1_0_0_1_n_n none (concatenate S262144x36 1 [⟨S262144x4, (x4 V0)⟩, ⟨S262144x32, (cx V0)⟩] concatenates_S262144x4_S262144x32_S262144x36_d1) (V0 (Proc.devRef .tc main_arg7))) (broadcastInDim S262144x32 ![0, 1] bcast_S1x32_S262144x32_0_1 (broadcastInDim S1x32 ![1] bcast_S32_S1x32_1 (V0 (Proc.devRef .tc main_arg8))))) (broadcastInDim S262144x32 ![] bcast_S_S262144x32 (constant S_ .f32 0x00000000#32)))

/-- The head of the selected pixels. -/
def mlp : FVec Ideal S262144 .f32 := (shapeCast _ (Host.divf (broadcastInDim S262144x1 ![] bcast_S_S262144x1 (constant S_ .f32 0x3F800000#32)) (addf (broadcastInDim S262144x1 ![] bcast_S_S262144x1 (constant S_ .f32 0x3F800000#32)) (Host.exp (Host.negf (addf (Host.dotGeneral (φ₂ := .f32) dot_S262144x32_S32x1_S262144x1_1_0_0_1_n_n none (hid V0) (V0 (Proc.devRef .tc main_arg9))) (broadcastInDim S262144x1 ![0, 1] bcast_S1x1_S262144x1_0_1 (broadcastInDim S1x1 ![1] bcast_S1_S1x1_1 (V0 (Proc.devRef .tc main_arg10))))))))) shapeCasts_S262144x1_S262144)

/-- The resized prediction of the selected pixels. -/
def old : FVec Ideal S262144 .f32 := (select (Host.reduce IntOp.andi (andi (cmpi .sge (res_main_call12_v5 V0) (broadcastInDim S262144x1 ![] bcast_S_S262144x1 (constantI S_ 32 0#32))) (cmpi .sle (res_main_call12_v5 V0) (broadcastInDim S262144x1 ![0, 1] bcast_S1x1_S262144x1_0_1 (broadcastInDim S1x1 ![1] bcast_S1_S1x1_1 (constantI S1 32 4194303#32))))) (constantI S_ 1 1#1) reducesTo_S262144x1_S262144_d1 h_S_) (Host.gather gather_S4194304_S262144x1_S262144_n_0_n_n_0_1_1 (res_main_v170 V0) (res_main_call12_v5 V0)) (broadcastInDim S262144 ![] bcast_S_S262144 (constant S_ .f32 0x7FC00000#32)))

/-- What the reference writes back. -/
def upd : FVec Ideal S262144 .f32 := (addf (mulf (mlp V0) (res_main_v173 V0)) (mulf (old V0) (subf (broadcastInDim S262144 ![] bcast_S_S262144 (constant S_ .f32 0x3F800000#32)) (res_main_v173 V0))))

/-- Where the reference writes back. -/
def dst : IVec S262144x1 32 := (broadcastInDim S262144x1 ![0] bcast_S262144_S262144x1_0 (select (cmpi .slt (res_main_indices V0) (broadcastInDim S262144 ![] bcast_S_S262144 (constantI S_ 32 0#32))) (addi (res_main_indices V0) (broadcastInDim S262144 ![] bcast_S_S262144 (constantI S_ 32 4194304#32))) (res_main_indices V0)))

/-- The reference's result. -/
def res : FVec Ideal S1x1x2048x2048 .f32 := shapeCast _ (Host.scatter scatter_S4194304_S262144x1_S262144_n_0_0_1 (fun _ b => b) (res_main_v170 V0) (dst V0) (upd V0)) shapeCasts_S4194304_S1x1x2048x2048

variable (p : Fin 512 → Fin 512 → ℝ) (hp : ∀ r s, (res_main_v122 V0 (ix2 r s) : EReal) = ((p r s : ℝ) : EReal))

/-- The fine image. -/
def hrin (c : Fin 3) (j l : Fin 2048) : EReal := V0 (Proc.tc.devRef main_arg1) (ix4 0 c j l)
/-- The image rows of the head's first matrix. -/
def wf1 (o : Fin 32) (c : Fin 4) : EReal := V0 (Proc.tc.devRef main_arg7) (ix2 ⟨c.val, by omega⟩ o)
/-- The context rows of the head's first matrix. -/
def wf2 (o k : Fin 32) : EReal := V0 (Proc.tc.devRef main_arg7) (ix2 ⟨4 + k.val, by omega⟩ o)
/-- The hidden layer's bias. -/
def bf1 (o : Fin 32) : EReal := V0 (Proc.tc.devRef main_arg8) (ix1 o)
/-- The head's second matrix. -/
def wf3 (o : Fin 32) : EReal := V0 (Proc.tc.devRef main_arg9) (ix2 o 0)
/-- The head's second bias. -/
def bf2 : EReal := V0 (Proc.tc.devRef main_arg10) (ix1 0)

/-- The reference's head at a pixel. -/
def hdR (j l : Fin 2048) : EReal :=
  head (wf1 V0) (wf2 V0) (bf1 V0) (wf3 V0) (bf2 V0) (chan (fun c => hrin V0 c j l) (up p j l : EReal)) (fun k => fea V0 k (quo j) (quo l))

/-- Halving the divisor doubles the quotient. -/
theorem halve (x : EReal) : Ideal.div x (Ideal.ofBits FTy.f32 1056964608#32) = x * Ideal.ofBits FTy.f32 1073741824#32 := by
  have h1 : Ideal.ofBits FTy.f32 1056964608#32 = ((1 / 2 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  rw [h1, h2, Ideal.div_coe (by norm_num)]
  norm_num

include hp in
/-- The four image channels of a flattened position. -/
theorem perm_at (n : Fin 4194304) (c : Fin 4) : (perm V0 (ix2 n c) : EReal)
    = chan (fun c => hrin V0 c ⟨n.val / 2048, by omega⟩ ⟨n.val % 2048, by omega⟩) (up p ⟨n.val / 2048, by omega⟩ ⟨n.val % 2048, by omega⟩ : EReal) c := by
  unfold perm
  pointwise
  unfold chan
  by_cases h : c.val < 3
  · rw [dif_pos h, dif_pos h]
    rfl
  · rw [dif_neg h, dif_neg h]
    refine (halve _).trans (congrArg (fun z : EReal => (z - Ideal.ofBits FTy.f32 1056964608#32) * Ideal.ofBits FTy.f32 1073741824#32) ?_)
    have e : (⟨c.val - 3, by omega⟩ : Fin 1) = 0 := Subsingleton.elim _ _
    exact (congrArg (fun z : Fin 1 => res_main_v125 V0 (ix4 0 z ⟨n.val / 2048, by omega⟩ ⟨n.val % 2048, by omega⟩)) e).trans (ups_at V0 p hp _ _)

/-- The 32 features of a flattened position. -/
theorem fperm_at (m : Fin 262144) (k : Fin 32) : (fperm V0 (ix2 m k) : EReal) = fea V0 k ⟨m.val / 512, by omega⟩ ⟨m.val % 512, by omega⟩ := by
  unfold fperm
  pointwise
  exact fea_at V0 k _ _

/-- A flag spread over four channels. -/
theorem spread4 (v : IVec S262144 1) (y : Fin 262144) (c : Fin 4) : broadcastInDim S262144x4 ![0] bcast_S262144_S262144x4_0 v (ix2 y c) = v (ix1 y) := by
  pointwise
/-- A flag spread over 32 channels. -/
theorem spread32 (v : IVec S262144 1) (y : Fin 262144) (c : Fin 32) : broadcastInDim S262144x32 ![0] bcast_S262144_S262144x32_0 v (ix2 y c) = v (ix1 y) := by
  pointwise

/-- A choice whose flag is set. -/
theorem sel_one {b : BitVec 1} {x z w : EReal} (h : b = 1#1) (e : x = w) : Scalar.select b x z = w := by
  rw [h, e]
  rfl

include hp in
/-- The gathered image channels. -/
theorem x4_at (y : Fin 262144) (c : Fin 4) : (x4 V0 (ix2 y c) : EReal) = perm V0 (ix2 (plc p y) c) := by
  unfold x4
  refine sel_one ((spread4 _ y c).trans (inside_at _ 4194303 y (plc p y).val (by omega) (by norm_num) (start_at V0 p hp y))) ?_
  exact Routing.gather_row gather_S4194304x4_S262144x1_S262144x4_1_0_n_n_0_1_14 rfl rfl rfl rfl rfl (perm V0) _ y c (plc p y) (start_at V0 p hp y) (by norm_num)

include hp in
/-- The gathered features. -/
theorem cx_at (y : Fin 262144) (k : Fin 32) : (cx V0 (ix2 y k) : EReal)
    = fea V0 k (quo ⟨(plc p y).val / 2048, by omega⟩) (quo ⟨(plc p y).val % 2048, by omega⟩) := by
  have hm : (plc p y).val / 2048 / 4 * 512 + (plc p y).val % 2048 / 4 < 262144 := by omega
  unfold cx
  refine sel_one ((spread32 _ y k).trans (inside_at _ 262143 y _ (Nat.le_of_lt_succ hm) (by norm_num) (start3_at V0 p hp y))) ?_
  refine (Routing.gather_row gather_S262144x32_S262144x1_S262144x32_1_0_n_n_0_1_132 rfl rfl rfl rfl rfl (fperm V0) _ y k ⟨_, hm⟩ (start3_at V0 p hp y) (by norm_num)).trans ?_
  refine (fperm_at V0 ⟨_, hm⟩ k).trans (congrArg₂ (fea V0 k) (Fin.ext ?_) (Fin.ext ?_))
  · show ((plc p y).val / 2048 / 4 * 512 + (plc p y).val % 2048 / 4) / 512 = (plc p y).val / 2048 / 4
    omega
  · show ((plc p y).val / 2048 / 4 * 512 + (plc p y).val % 2048 / 4) % 512 = (plc p y).val % 2048 / 4
    omega

include hp in
/-- The gathered prediction. -/
theorem old_at (y : Fin 262144) : (old V0 (ix1 y) : EReal) = res_main_v170 V0 (ix1 (plc p y)) := by
  unfold old
  refine sel_one (inside_at _ 4194303 y (plc p y).val (by omega) (by norm_num) (start2_at V0 p hp y)) ?_
  exact Routing.gather_take1 gather_S4194304_S262144x1_S262144_n_0_n_n_0_1_1 rfl rfl rfl rfl (res_main_v170 V0) _ y (plc p y) (start2_at V0 p hp y) (by norm_num)

/-- The flattened resized prediction. -/
theorem flat_at (n : Fin 4194304) : (res_main_v170 V0 (ix1 n) : EReal) = res_main_v125 V0 (ix4 0 0 ⟨n.val / 2048, by omega⟩ ⟨n.val % 2048, by omega⟩) := by
  unfold res_main_v170
  clean_types
  pointwise

/-- The hidden layer of a selected position. -/
theorem hid_at (y : Fin 262144) (o : Fin 32) : (hid V0 (ix2 y o) : EReal)
    = max ((∑ c : Fin 4, wf1 V0 o c * x4 V0 (ix2 y c)) + (∑ k : Fin 32, wf2 V0 o k * cx V0 (ix2 y k)) + bf1 V0 o) 0 := by
  unfold hid
  pointwise
  exact congrArg (fun z : EReal => max z 0) (congrArg (fun z : EReal => z + bf1 V0 o) (congrArg₂ (fun a b : EReal => a + b)
    (Finset.sum_congr rfl fun c _ => mul_comm (G := EReal) _ _) (Finset.sum_congr rfl fun k _ => mul_comm (G := EReal) _ _)))

/-- The head's value at a selected position. -/
theorem mlp_at (y : Fin 262144) : (mlp V0 (ix1 y) : EReal) = Ideal.logistic ((∑ o : Fin 32, wf3 V0 o * hid V0 (ix2 y o)) + bf2 V0) := by
  unfold mlp
  pointwise
  exact congrArg Ideal.logistic (congrArg (fun z : EReal => z + bf2 V0) (Finset.sum_congr rfl fun c _ => mul_comm (G := EReal) _ _))

end Cert.ReferenceIdeal.Value
end
-- ==== Proof.Value.RefY.lean ====
module
public import proofs.«01_k».proof.Proof.Value.RefX
@[expose] public section
set_option maxRecDepth 16384
set_option maxHeartbeats 4000000
noncomputable section
namespace Cert.ReferenceIdeal.Value
open Idealize.ShloMosaic Idealize.SL.Sem Cert.ReferenceIdeal Cert.ReferenceIdeal.Gen Cert.Spec
variable (V0 : Valuation τ sig (Elt Ideal))
variable (p : Fin 512 → Fin 512 → ℝ) (hp : ∀ r s, (res_main_v122 V0 (ix2 r s) : EReal) = ((p r s : ℝ) : EReal))

include hp in
/-- The head of a selected pixel. -/
theorem head_at (y : Fin 262144) : (mlp V0 (ix1 y) : EReal) = hdR V0 p ⟨(plc p y).val / 2048, by omega⟩ ⟨(plc p y).val % 2048, by omega⟩ := by
  rw [mlp_at]
  unfold hdR head
  simp only [hid_at, x4_at V0 p hp, perm_at V0 p hp, cx_at V0 p hp]

/-- The value written back: the head's where valid, the old one elsewhere. -/
theorem upd_form (y : Fin 262144) : (upd V0 (ix1 y) : EReal) = mlp V0 (ix1 y) * res_main_v173 V0 (ix1 y) + old V0 (ix1 y) * ((1 : EReal) - res_main_v173 V0 (ix1 y)) := by
  unfold upd
  pointwise

include hp in
/-- What is written back for a selected pixel. -/
theorem upd_at (y : Fin 262144) : (upd V0 (ix1 y) : EReal)
    = if flag p (plc p y).val = 1 then hdR V0 p ⟨(plc p y).val / 2048, by omega⟩ ⟨(plc p y).val % 2048, by omega⟩
      else ((up p ⟨(plc p y).val / 2048, by omega⟩ ⟨(plc p y).val % 2048, by omega⟩ : ℝ) : EReal) := by
  have e : ∀ a b v : EReal, ∀ f : ℕ, (f = 0 ∨ f = 1) → v = ((f : ℝ) : EReal) → a * v + b * ((1 : EReal) - v) = if f = 1 then a else b := by
    intro a b v f hf hv
    rcases hf with rfl | rfl
    · rw [hv, if_neg (by norm_num)]
      simp
    · have h1 : (1 : EReal) - 1 = 0 := by
        rw [← EReal.coe_one, ← EReal.coe_sub, sub_self, EReal.coe_zero]
      rw [hv, if_pos rfl, Nat.cast_one, EReal.coe_one, h1, mul_one, mul_zero, add_zero]
  refine (upd_form V0 y).trans ((e _ _ _ _ (flag_or p _) (valid_at V0 p hp y)).trans ?_)
  rw [head_at V0 p hp, old_at V0 p hp, flat_at, ups_at V0 p hp]

/-- The flattened result given its two image axes. -/
theorem unflat (v : FVec Ideal S4194304 .f32) (j l : Fin 2048) :
    (shapeCast S1x1x2048x2048 v shapeCasts_S4194304_S1x1x2048x2048 (ix4 0 0 j l) : EReal) = v (ix1 ⟨j.val * 2048 + l.val, by omega⟩) := by
  pointwise

include hp in
/-- The reference's result at a pixel. -/
theorem res_at (j l : Fin 2048) : (res V0 (ix4 0 0 j l) : EReal) = out p (hdR V0 p) j l := by
  classical
  unfold res
  refine (unflat _ j l).trans ?_
  have hn : j.val * 2048 + l.val < 4194304 := by omega
  have hq : (j.val * 2048 + l.val) / 2048 = j.val := by omega
  have hr : (j.val * 2048 + l.val) % 2048 = l.val := by omega
  have hj : (⟨(j.val * 2048 + l.val) / 2048, by omega⟩ : Fin 2048) = j := Fin.ext hq
  have hl : (⟨(j.val * 2048 + l.val) % 2048, by omega⟩ : Fin 2048) = l := Fin.ext hr
  have hu : (res_main_v170 V0 (ix1 ⟨j.val * 2048 + l.val, hn⟩) : EReal) = ((up p j l : ℝ) : EReal) := by
    rw [flat_at, ups_at V0 p hp]
    dsimp only
    rw [hj, hl]
  have hf : flag p (j.val * 2048 + l.val) = 1 ↔ near p j l := by
    have e : (⟨(j.val * 2048 + l.val) / 2048 % 2048, Nat.mod_lt _ (by norm_num)⟩ : Fin 2048) = j := Fin.ext (by show (j.val * 2048 + l.val) / 2048 % 2048 = j.val; omega)
    unfold flag
    rw [e, hl]
    split_ifs with h
    · exact ⟨fun _ => h, fun _ => rfl⟩
    · exact ⟨fun g => absurd g (by norm_num), fun g => absurd g h⟩
  have hland : ∀ y : Fin 262144, scatter_S4194304_S262144x1_S262144_n_0_0_1.resultIdx? (ix1 y) (dst V0) = some (ValueIdx.ix1 ⟨j.val * 2048 + l.val, hn⟩)
      ↔ (plc p y).val = j.val * 2048 + l.val := by
    intro y
    have hy := (plc p y).isLt
    refine (lands_at scatter_S4194304_S262144x1_S262144_n_0_0_1 rfl rfl rfl (dst V0) y ⟨j.val * 2048 + l.val, hn⟩).trans ?_
    have e : (dst V0 (ix2 y 0) : BitVec 32) = BitVec.ofNat 32 (plc p y).val := start2_at V0 p hp y
    rw [e, toInt_word _ (by omega)]
    exact Nat.cast_inj
  have hw : ∀ y : Fin 262144, (plc p y).val = j.val * 2048 + l.val →
      (upd V0 (ix1 y) : EReal) = if near p j l then hdR V0 p j l else ((up p j l : ℝ) : EReal) := by
    intro y hy
    refine (upd_at V0 p hp y).trans ?_
    have ej : (⟨(plc p y).val / 2048, by omega⟩ : Fin 2048) = j := Fin.ext (by show (plc p y).val / 2048 = j.val; omega)
    have el : (⟨(plc p y).val % 2048, by omega⟩ : Fin 2048) = l := Fin.ext (by show (plc p y).val % 2048 = l.val; omega)
    rw [ej, el, hy]
    by_cases h : near p j l
    · rw [if_pos h, if_pos (hf.mpr h)]
    · rw [if_neg h, if_neg fun g => h (hf.mp g)]
  have hix : ∀ k : S262144.Idx, k = ix1 (k 0) := fun k => (ix1_eta (n0 := 262144) k).symm
  have hit : ∀ y : Fin 262144, (plc p y).val = j.val * 2048 + l.val →
      (Host.scatter scatter_S4194304_S262144x1_S262144_n_0_0_1 (fun _ b => b) (res_main_v170 V0) (dst V0) (upd V0) (ix1 ⟨j.val * 2048 + l.val, hn⟩) : EReal)
        = if near p j l then hdR V0 p j l else ((up p j l : ℝ) : EReal) := fun y hy =>
    Routing.scatter_set_hit scatter_S4194304_S262144x1_S262144_n_0_0_1 (res_main_v170 V0) (dst V0) (upd V0) (ValueIdx.ix1 ⟨j.val * 2048 + l.val, hn⟩) _
      (fun k hk => by
        rw [hix k] at hk ⊢
        exact hw _ ((hland _).mp hk)) (ix1 y) ((hland y).mpr hy)
  have miss : (∀ y : Fin 262144, (plc p y).val ≠ j.val * 2048 + l.val) →
      (Host.scatter scatter_S4194304_S262144x1_S262144_n_0_0_1 (fun _ b => b) (res_main_v170 V0) (dst V0) (upd V0) (ix1 ⟨j.val * 2048 + l.val, hn⟩) : EReal)
        = ((up p j l : ℝ) : EReal) := fun hno =>
    (Routing.scatter_set_miss scatter_S4194304_S262144x1_S262144_n_0_0_1 (res_main_v170 V0) (dst V0) (upd V0) (ValueIdx.ix1 ⟨j.val * 2048 + l.val, hn⟩)
      (fun k hk => by
        rw [hix k] at hk
        exact hno _ ((hland _).mp hk))).trans hu
  unfold out
  by_cases hnear : near p j l
  · have hex := exists_place_iff (n := 4194304) (K := 262144) (by norm_num) (flag p) (fun i => by rcases flag_or p i with h | h <;> omega) ⟨j.val * 2048 + l.val, hn⟩ (hf.mpr hnear)
    by_cases hc : cnt p (j.val * 2048 + l.val) ≤ 262144
    · rw [if_pos ⟨hnear, hc⟩]
      obtain ⟨y, hy, hyp⟩ := hex.mpr hc
      rw [hit ⟨y.val, hy⟩ (congrArg Fin.val hyp), if_pos hnear]
    · rw [if_neg fun g => hc g.2]
      refine miss fun y hy => hc (hex.mp ⟨⟨y.val, lt_of_lt_of_le y.isLt (by norm_num)⟩, y.isLt, Fin.ext hy⟩)
  · rw [if_neg fun g => hnear g.1]
    by_cases hex : ∃ y : Fin 262144, (plc p y).val = j.val * 2048 + l.val
    · obtain ⟨y, hy⟩ := hex
      rw [hit y hy, if_neg hnear]
    · exact miss fun y hy => hex ⟨y, hy⟩

end Cert.ReferenceIdeal.Value
end
-- ==== Proof.Value.Final.lean ====
/- The kernel's result and the reference's, from arguments that agree, are one array. -/
module
public import proofs.«01_k».proof.Proof.Value.KHost
public import proofs.«01_k».proof.Proof.Value.RefY
@[expose] public section
set_option maxRecDepth 16384
set_option maxHeartbeats 4000000
noncomputable section
namespace Cert.Equal
open Idealize.ShloMosaic Idealize.ShloMosaic.TcCoe Idealize.SL.Sem Cert.Spec

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two programs' arguments agree on a device. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable (h : Agree m m' c)

include h in
/-- The features agree. -/
theorem fea_eq : Cert.ReferenceIdeal.Value.fea (StableHlo.launchContents m' c) = Cert.KernelIdeal.Body.feaK m c := by
  obtain ⟨h0, -, h3, h4, -⟩ := h
  have e0 : Cert.ReferenceIdeal.Value.xin (StableHlo.launchContents m' c) = Cert.KernelIdeal.Body.xK m c := by
    funext k r s; exact congrFun h0 (ix4 0 k r s)
  have e3 : Cert.ReferenceIdeal.Value.w1 (StableHlo.launchContents m' c) = Cert.KernelIdeal.Body.w1K m c := by
    funext o k y x; exact congrFun h3 (ix4 o k y x)
  have e4 : Cert.ReferenceIdeal.Value.b1 (StableHlo.launchContents m' c) = Cert.KernelIdeal.Body.b1K m c := by
    funext o; exact congrFun h4 (ix1 o)
  unfold Cert.ReferenceIdeal.Value.fea Cert.KernelIdeal.Body.feaK
  rw [e0, e3, e4]

include h in
/-- The predictions agree, and are real numbers. -/
theorem prd_eq (r s : Fin 512) :
    (Cert.ReferenceIdeal.Value.res_main_v122 (StableHlo.launchContents m' c) (ix2 r s) : EReal) = ((Cert.KernelIdeal.Body.pK m c r s : ℝ) : EReal) := by
  refine (Cert.ReferenceIdeal.Value.prd_at (StableHlo.launchContents m' c) r s).trans ?_
  have hf := fea_eq m m' c h
  obtain ⟨-, -, -, -, h5, h6, -⟩ := h
  have e5 : Cert.ReferenceIdeal.Value.wp (StableHlo.launchContents m' c) = Cert.KernelIdeal.Body.wpK m c := by
    funext k y x; exact congrFun h5 (ix4 0 k y x)
  have e6 : Cert.ReferenceIdeal.Value.bp (StableHlo.launchContents m' c) = Cert.KernelIdeal.Body.bpK m c := congrFun h6 (ix1 0)
  unfold Cert.ReferenceIdeal.Value.prd Cert.KernelIdeal.Body.pK
  rw [hf, e5, e6]
  exact (coe_sig _).symm

include h in
/-- The heads agree. -/
theorem head_eq : Cert.ReferenceIdeal.Value.hdR (StableHlo.launchContents m' c) (Cert.KernelIdeal.Body.pK m c) = Cert.KernelIdeal.Body.hdA m c := by
  have hf := fea_eq m m' c h
  obtain ⟨-, h1, -, -, -, -, h7, h8, h9, h10⟩ := h
  have e1 : Cert.ReferenceIdeal.Value.hrin (StableHlo.launchContents m' c) = Cert.KernelIdeal.Body.hrK m c := by
    funext k r s; exact congrFun h1 (ix4 0 k r s)
  have e7 : Cert.ReferenceIdeal.Value.wf1 (StableHlo.launchContents m' c) = Cert.KernelIdeal.Body.wf1K m c := by
    funext o k; exact congrFun h7 (ix2 ⟨k.val, by omega⟩ o)
  have e7' : Cert.ReferenceIdeal.Value.wf2 (StableHlo.launchContents m' c) = Cert.KernelIdeal.Body.wf2K m c := by
    funext o k; exact congrFun h7 (ix2 ⟨4 + k.val, by omega⟩ o)
  have e8 : Cert.ReferenceIdeal.Value.bf1 (StableHlo.launchContents m' c) = Cert.KernelIdeal.Body.bf1K m c := by
    funext o; exact congrFun h8 (ix1 o)
  have e9 : Cert.ReferenceIdeal.Value.wf3 (StableHlo.launchContents m' c) = Cert.KernelIdeal.Body.wf3K m c := by
    funext o; exact congrFun h9 (ix2 o 0)
  have e10 : Cert.ReferenceIdeal.Value.bf2 (StableHlo.launchContents m' c) = Cert.KernelIdeal.Body.bf2K m c := congrFun h10 (ix1 0)
  funext j l
  unfold Cert.ReferenceIdeal.Value.hdR Cert.KernelIdeal.Body.hdA
  rw [hf, e1, e7, e7', e8, e9, e10]

include h in
/-- The results agree. -/
theorem result_eq : Cert.ReferenceIdeal.Value.res (StableHlo.launchContents m' c)
    = Cert.KernelIdeal.Body.W9 m ρ c (Proc.devRef .tc Cert.KernelIdeal.main_v103) := by
  have key : ∀ j l : Fin 2048, (Cert.ReferenceIdeal.Value.res (StableHlo.launchContents m' c) (ix4 0 0 j l) : EReal)
      = Cert.KernelIdeal.Body.W9 m ρ c (Proc.devRef .tc Cert.KernelIdeal.main_v103) (ix4 0 0 j l) := by
    intro j l
    refine (Cert.ReferenceIdeal.Value.res_at (StableHlo.launchContents m' c) (Cert.KernelIdeal.Body.pK m c) (prd_eq m m' c h) j l).trans ?_
    rw [head_eq m m' c h]
    exact (Cert.KernelIdeal.Body.out_at m ρ c j l).symm
  funext i
  have hi : i = ix4 (i 0) (i 1) (i 2) (i 3) := (ix4_eta (n0 := 1) (n1 := 1) (n2 := 2048) (n3 := 2048) i).symm
  have h0 : i 0 = (0 : Fin 1) := Subsingleton.elim (α := Fin 1) _ _
  have h1 : i 1 = (0 : Fin 1) := Subsingleton.elim (α := Fin 1) _ _
  rw [h0, h1] at hi
  rw [hi]
  exact key (i 2) (i 3)

end Cert.Equal
end
-- ==== Proof.lean ====
/- The certificate: the frames of the three programs, the idealization, and the equality of the kernel's result with the
   reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Value.Final
public import Idealize.ShloMosaic.Adequacy
public import Idealize.ShloMosaic.Init

@[expose] public section

noncomputable section

namespace Cert.Proof

open Idealize.ShloMosaic Idealize.SL.Sem Cert.Kernel

/-- The reference runs to its end, with its arguments and its counters as they were. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two idealizations, from arguments that agree, end with equal results: the kernel's is the array at its last
    boundary, and the reference's composed result is that array. -/
theorem equal : Cert.algebraic_KernelIdeal_ReferenceIdeal := by
  intro m g m' g' _ hargs
  refine ⟨fun c => Cert.KernelIdeal.Body.W9 m g c (Proc.devRef .tc Cert.KernelIdeal.main_v103), ?_, ?_⟩
  · refine (θ_run _ _ _).mono (fun r h c => ?_) (Cert.KernelIdeal.Body.run_all m g)
    have rd : ∀ b : Ref Cert.KernelIdeal.sig .tc, (hb : (Proc.devRef .tc b : DevRef Cert.KernelIdeal.τ Cert.KernelIdeal.sig) ∈ Pipeline.ucRefs Cert.KernelIdeal.τ Cert.KernelIdeal.sig) →
        r.2.mem ((c.tc : Thread Cert.KernelIdeal.nD Cert.KernelIdeal.τ).loc b) = Cert.KernelIdeal.Body.W9 m g c (Proc.devRef .tc b) :=
      fun b hb => h.1 c _ hb
    exact ⟨rd _ (Cert.KernelIdeal.Body.mem_uc Cert.KernelIdeal.main_v103 (by decide)),
      (rd _ (Cert.KernelIdeal.Body.mem_uc Cert.KernelIdeal.main_arg0 (by decide))).trans (Cert.KernelIdeal.Body.W9_main_arg0 m g c),
      (rd _ (Cert.KernelIdeal.Body.mem_uc Cert.KernelIdeal.main_arg1 (by decide))).trans (Cert.KernelIdeal.Body.W9_main_arg1 m g c),
      (rd _ (Cert.KernelIdeal.Body.mem_uc Cert.KernelIdeal.main_arg2 (by decide))).trans (Cert.KernelIdeal.Body.W9_main_arg2 m g c),
      (rd _ (Cert.KernelIdeal.Body.mem_uc Cert.KernelIdeal.main_arg3 (by decide))).trans (Cert.KernelIdeal.Body.W9_main_arg3 m g c),
      (rd _ (Cert.KernelIdeal.Body.mem_uc Cert.KernelIdeal.main_arg4 (by decide))).trans (Cert.KernelIdeal.Body.W9_main_arg4 m g c),
      (rd _ (Cert.KernelIdeal.Body.mem_uc Cert.KernelIdeal.main_arg5 (by decide))).trans (Cert.KernelIdeal.Body.W9_main_arg5 m g c),
      (rd _ (Cert.KernelIdeal.Body.mem_uc Cert.KernelIdeal.main_arg6 (by decide))).trans (Cert.KernelIdeal.Body.W9_main_arg6 m g c),
      (rd _ (Cert.KernelIdeal.Body.mem_uc Cert.KernelIdeal.main_arg7 (by decide))).trans (Cert.KernelIdeal.Body.W9_main_arg7 m g c),
      (rd _ (Cert.KernelIdeal.Body.mem_uc Cert.KernelIdeal.main_arg8 (by decide))).trans (Cert.KernelIdeal.Body.W9_main_arg8 m g c),
      (rd _ (Cert.KernelIdeal.Body.mem_uc Cert.KernelIdeal.main_arg9 (by decide))).trans (Cert.KernelIdeal.Body.W9_main_arg9 m g c),
      (rd _ (Cert.KernelIdeal.Body.mem_uc Cert.KernelIdeal.main_arg10 (by decide))).trans (Cert.KernelIdeal.Body.W9_main_arg10 m g c)⟩
  · refine (θ_run _ _ _).mono (fun r h c => ?_) (Cert.ReferenceIdeal.Value.run (F := Ideal) m' g')
    refine ⟨(h c).1.trans ?_, (h c).2⟩
    obtain ⟨h0, h1, -, h3, h4, h5, h6, h7, h8, h9, h10⟩ := hargs c
    exact Cert.Equal.result_eq m g m' c ⟨h0, h1, h3, h4, h5, h6, h7, h8, h9, h10⟩

/-- Every claim of the certificate. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, frame_reference, trivial, equal⟩

end Cert.Proof

end
